-- ==== Defs.lean ====
def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11)
      ∧ r.2.mem ((c.tc : Thread Cert.Back.nD Cert.Back.τ).loc Cert.Back.main_arg12) = m ((c.tc : Thread Cert.Back.nD Cert.Back.τ).loc Cert.Back.main_arg12)
      ∧ r.2.mem ((c.tc : Thread Cert.Back.nD Cert.Back.τ).loc Cert.Back.main_arg13) = m ((c.tc : Thread Cert.Back.nD Cert.Back.τ).loc Cert.Back.main_arg13)
      ∧ r.2.mem ((c.tc : Thread Cert.Back.nD Cert.Back.τ).loc Cert.Back.main_arg14) = m ((c.tc : Thread Cert.Back.nD Cert.Back.τ).loc Cert.Back.main_arg14))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
      ∧ r.2.mem ((c.tc : Thread Cert.BackIdeal.nD Cert.BackIdeal.τ).loc Cert.BackIdeal.main_arg13) = m ((c.tc : Thread Cert.BackIdeal.nD Cert.BackIdeal.τ).loc Cert.BackIdeal.main_arg13)
      ∧ r.2.mem ((c.tc : Thread Cert.BackIdeal.nD Cert.BackIdeal.τ).loc Cert.BackIdeal.main_arg14) = m ((c.tc : Thread Cert.BackIdeal.nD Cert.BackIdeal.τ).loc Cert.BackIdeal.main_arg14))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10)
      ∧ r.2.mem ((c.tc : Thread Cert.BackRefIdeal.nD Cert.BackRefIdeal.τ).loc Cert.BackRefIdeal.main_arg11) = m ((c.tc : Thread Cert.BackRefIdeal.nD Cert.BackRefIdeal.τ).loc Cert.BackRefIdeal.main_arg11)
      ∧ r.2.mem ((c.tc : Thread Cert.BackRefIdeal.nD Cert.BackRefIdeal.τ).loc Cert.BackRefIdeal.main_arg12) = m ((c.tc : Thread Cert.BackRefIdeal.nD Cert.BackRefIdeal.τ).loc Cert.BackRefIdeal.main_arg12)
      ∧ r.2.mem ((c.tc : Thread Cert.BackRefIdeal.nD Cert.BackRefIdeal.τ).loc Cert.BackRefIdeal.main_arg13) = m ((c.tc : Thread Cert.BackRefIdeal.nD Cert.BackRefIdeal.τ).loc Cert.BackRefIdeal.main_arg13)
      ∧ r.2.mem ((c.tc : Thread Cert.BackRefIdeal.nD Cert.BackRefIdeal.τ).loc Cert.BackRefIdeal.main_arg14) = m ((c.tc : Thread Cert.BackRefIdeal.nD Cert.BackRefIdeal.τ).loc Cert.BackRefIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
      ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
      ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)
      ∧ m' ((c.tc : Thread Cert.BackRefIdeal.nD Cert.BackRefIdeal.τ).loc Cert.BackRefIdeal.main_arg13) = m ((c.tc : Thread Cert.BackIdeal.nD Cert.BackIdeal.τ).loc Cert.BackIdeal.main_arg13)
      ∧ m' ((c.tc : Thread Cert.BackRefIdeal.nD Cert.BackRefIdeal.τ).loc Cert.BackRefIdeal.main_arg14) = m ((c.tc : Thread Cert.BackIdeal.nD Cert.BackIdeal.τ).loc Cert.BackIdeal.main_arg14)) →
    ∃ (v0 : (c : Dev Cert.BackIdeal.nD) → Buf (Elt Ideal) ((c.tc : Thread Cert.BackIdeal.nD Cert.BackIdeal.τ).loc Cert.BackIdeal.main_v9_0)) (v1 : (c : Dev Cert.BackIdeal.nD) → Buf (Elt Ideal) ((c.tc : Thread Cert.BackIdeal.nD Cert.BackIdeal.τ).loc Cert.BackIdeal.main_v9_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v9_0) = v0 c
          ∧ r.2.mem ((c.tc : Thread Cert.BackIdeal.nD Cert.BackIdeal.τ).loc Cert.BackIdeal.main_v9_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
          ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
          ∧ r.2.mem ((c.tc : Thread Cert.BackIdeal.nD Cert.BackIdeal.τ).loc Cert.BackIdeal.main_arg13) = m ((c.tc : Thread Cert.BackIdeal.nD Cert.BackIdeal.τ).loc Cert.BackIdeal.main_arg13)
          ∧ r.2.mem ((c.tc : Thread Cert.BackIdeal.nD Cert.BackIdeal.τ).loc Cert.BackIdeal.main_arg14) = m ((c.tc : Thread Cert.BackIdeal.nD Cert.BackIdeal.τ).loc Cert.BackIdeal.main_arg14))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v115) = v0 c
          ∧ r.2.mem ((c.tc : Thread Cert.BackRefIdeal.nD Cert.BackRefIdeal.τ).loc Cert.BackRefIdeal.main_v116) = v1 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10)
          ∧ r.2.mem ((c.tc : Thread Cert.BackRefIdeal.nD Cert.BackRefIdeal.τ).loc Cert.BackRefIdeal.main_arg11) = m' ((c.tc : Thread Cert.BackRefIdeal.nD Cert.BackRefIdeal.τ).loc Cert.BackRefIdeal.main_arg11)
          ∧ r.2.mem ((c.tc : Thread Cert.BackRefIdeal.nD Cert.BackRefIdeal.τ).loc Cert.BackRefIdeal.main_arg12) = m' ((c.tc : Thread Cert.BackRefIdeal.nD Cert.BackRefIdeal.τ).loc Cert.BackRefIdeal.main_arg12)
          ∧ r.2.mem ((c.tc : Thread Cert.BackRefIdeal.nD Cert.BackRefIdeal.τ).loc Cert.BackRefIdeal.main_arg13) = m' ((c.tc : Thread Cert.BackRefIdeal.nD Cert.BackRefIdeal.τ).loc Cert.BackRefIdeal.main_arg13)
          ∧ r.2.mem ((c.tc : Thread Cert.BackRefIdeal.nD Cert.BackRefIdeal.τ).loc Cert.BackRefIdeal.main_arg14) = m' ((c.tc : Thread Cert.BackRefIdeal.nD Cert.BackRefIdeal.τ).loc Cert.BackRefIdeal.main_arg14))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v79) = v0 c
          ∧ r.2.mem ((c.tc : Thread Cert.FfnRefIdeal.nD Cert.FfnRefIdeal.τ).loc Cert.FfnRefIdeal.main_v80) = v1 c
          ∧ r.2.mem ((c.tc : Thread Cert.FfnRefIdeal.nD Cert.FfnRefIdeal.τ).loc Cert.FfnRefIdeal.main_v81) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def Claim : Prop :=
  ∃ (hBack : Cert.Back.Facts) (hBackIdeal : Cert.BackIdeal.Facts) (hBackRefIdeal : Cert.BackRefIdeal.Facts) (hFfn : Cert.Ffn.Facts) (hFfnIdeal : Cert.FfnIdeal.Facts) (hFfnRefIdeal : Cert.FfnRefIdeal.Facts),
    quiescent_Back (hBack := hBack)
    ∧ quiescent_BackIdeal (hBackIdeal := hBackIdeal)
    ∧ quiescent_BackRefIdeal (hBackRefIdeal := hBackRefIdeal)
    ∧ quiescent_Ffn (hFfn := hFfn)
    ∧ quiescent_FfnIdeal (hFfnIdeal := hFfnIdeal)
    ∧ quiescent_FfnRefIdeal (hFfnRefIdeal := hFfnRefIdeal)
    ∧ preserves_Back_BackIdeal
    ∧ algebraic_BackIdeal_BackRefIdeal (hBackIdeal := hBackIdeal) (hBackRefIdeal := hBackRefIdeal)
    ∧ preserves_Ffn_FfnIdeal
    ∧ algebraic_FfnIdeal_FfnRefIdeal (hFfnIdeal := hFfnIdeal) (hFfnRefIdeal := hFfnRefIdeal)
-- ==== Back.lean ====
abbrev S8192x1024 : Shape := ⟨2, ![8192, 1024]⟩
abbrev S8192x512 : Shape := ⟨2, ![8192, 512]⟩
abbrev S8x6144 : Shape := ⟨2, ![8, 6144]⟩
abbrev S6x1024 : Shape := ⟨2, ![6, 1024]⟩
abbrev S1x512 : Shape := ⟨2, ![1, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S512x512 : Shape := ⟨2, ![512, 512]⟩
abbrev S_ : Shape := ⟨0, ![]⟩
abbrev S4096x1024 : Shape := ⟨2, ![4096, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 32
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .bf16⟩
  | .hbm, ⟨4, _⟩ => ⟨S8192x512, .bf16⟩
  | .hbm, ⟨5, _⟩ => ⟨S8192x1024, .bf16⟩
  | .hbm, ⟨6, _⟩ => ⟨S8192x1024, .bf16⟩
  | .hbm, ⟨7, _⟩ => ⟨S8x6144, .f32⟩
  | .hbm, ⟨8, _⟩ => ⟨S6x1024, .f32⟩
  | .hbm, ⟨9, _⟩ => ⟨S1x512, .f32⟩
  | .hbm, ⟨10, _⟩ => ⟨S1x512, .f32⟩
  | .hbm, ⟨11, _⟩ => ⟨S512x1024, .bf16⟩
  | .hbm, ⟨12, _⟩ => ⟨S1024x1024, .bf16⟩
  | .hbm, ⟨13, _⟩ => ⟨S1024x5632, .bf16⟩
  | .hbm, ⟨14, _⟩ => ⟨S2816x1024, .bf16⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S4096x1024, .f32⟩
  | .hbm, ⟨31, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x6144, .f32⟩
  | .local _ .vmem, ⟨15, _⟩ => ⟨S6x1024, .f32⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S1024x1024, .bf16⟩
  | .local _ .vmem, ⟨20, _⟩ => ⟨S512x512, .bf16⟩
  | .local _ .vmem, ⟨21, _⟩ => ⟨S1024x5632, .bf16⟩
  | .local _ .vmem, ⟨22, _⟩ => ⟨S2816x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c2_i32 : BitVec 32 := 2#32
  let v0 : BitVec 32 := Scalar.muli arg0 c2_i32
  let c16_i32 : BitVec 32 := 16#32
  let v1 : BitVec 1 := Scalar.cmpi .slt v0 c16_i32
  let c0_i32_6 : BitVec 32 := 0#32
  let c1_i32_5 : BitVec 32 := 1#32
  let c16_i32_0 : BitVec 32 := 16#32
  let v2 : BitVec 32 := Scalar.subi v0 c16_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v22 : Index := Scalar.indexCast v21
  let c2048 : Index := 2048#32
  ![v22.toNat, 2048]
def k0_off2 (i : grid0.Coords) : Fin 2 → Nat :=
  let arg0 : BitVec 32 := BitVec.ofNat 32 (i 0).val
  let c2_i32 : BitVec 32 := 2#32
  let v0 : BitVec 32 := Scalar.muli arg0 c2_i32
  let c16_i32_73 : BitVec 32 := 16#32
  let v143 : BitVec 1 := Scalar.cmpi .slt v0 c16_i32_73
  let c0_i32_83 : BitVec 32 := 0#32
  let c1_i32_82 : BitVec 32 := 1#32
  let c16_i32_74 : BitVec 32 := 16#32
  let v144 : BitVec 32 := Scalar.subi v0 c16_i32_74
  let c0_i32_76 : BitVec 32 := 0#32
  let v146 : BitVec 1 := Scalar.cmpi .sgt v144 c0_i32_76
  let v147 : BitVec 32 := Scalar.extui v146
  let c0_i32_77 : BitVec 32 := 0#32
  let v148 : BitVec 1 := Scalar.cmpi .slt v144 c0_i32_77
  let v149 : BitVec 32 := Scalar.extui v148
  let v150 : BitVec 32 := Scalar.subi v147 v149
  let c8_i32_75 : BitVec 32 := 8#32
  let c0_i32_78 : BitVec 32 := 0#32
  let v151 : BitVec 1 := Scalar.cmpi .sgt c8_i32_75 c0_i32_78
  let v152 : BitVec 32 := Scalar.extui v151
  let c0_i32_79 : BitVec 32 := 0#32
  let v153 : BitVec 1 := Scalar.cmpi .slt c8_i32_75 c0_i32_79
  let v154 : BitVec 32 := Scalar.extui v153
  let v155 : BitVec 32 := Scalar.subi v152 v154
  let v156 : BitVec 1 := Scalar.cmpi .ne v150 v155
  let v157 : BitVec 32 := Scalar.remsi v144 c8_i32_75
  let c0_i32_80 : BitVec 32 := 0#32
  let v158 : BitVec 1 := Scalar.cmpi .ne v157 c0_i32_80
  let v159 : BitVec 1 := Scalar.andi v156 v158
  let v145 : BitVec 32 := Scalar.divsi v144 c8_i32_75
  let c1_i32_81 : BitVec 32 := 1#32
  let v160 : BitVec 32 := Scalar.subi v145 c1_i32_81
  let v161 : BitVec 32 := Scalar.select v159 v160 v145
  let v162 : BitVec 32 := Scalar.addi c1_i32_82 v161
  let v163 : BitVec 32 := Scalar.select v143 c0_i32_83 v162
  let v164 : Index := Scalar.indexCast v163
  let c3072 : Index := 3072#32
  ![v164.toNat, 3072]
def k0_off3 (i : grid0.Coords) : Fin 2 → Nat :=
  let arg0 : BitVec 32 := BitVec.ofNat 32 (i 0).val
  let c2_i32 : BitVec 32 := 2#32
  let v0 : BitVec 32 := Scalar.muli arg0 c2_i32
  let c16_i32_73 : BitVec 32 := 16#32
  let v143 : BitVec 1 := Scalar.cmpi .slt v0 c16_i32_73
  let c0_i32_83 : BitVec 32 := 0#32
  let c1_i32_82 : BitVec 32 := 1#32
  let c16_i32_74 : BitVec 32 := 16#32
  let v144 : BitVec 32 := Scalar.subi v0 c16_i32_74
  let c0_i32_76 : BitVec 32 := 0#32
  let v146 : BitVec 1 := Scalar.cmpi .sgt v144 c0_i32_76
  let v147 : BitVec 32 := Scalar.extui v146
  let c0_i32_77 : BitVec 32 := 0#32
  let v148 : BitVec 1 := Scalar.cmpi .slt v144 c0_i32_77
  let v149 : BitVec 32 := Scalar.extui v148
  let v150 : BitVec 32 := Scalar.subi v147 v149
  let c8_i32_75 : BitVec 32 := 8#32
  let c0_i32_78 : BitVec 32 := 0#32
  let v151 : BitVec 1 := Scalar.cmpi .sgt c8_i32_75 c0_i32_78
  let v152 : BitVec 32 := Scalar.extui v151
  let c0_i32_79 : BitVec 32 := 0#32
  let v153 : BitVec 1 := Scalar.cmpi .slt c8_i32_75 c0_i32_79
  let v154 : BitVec 32 := Scalar.extui v153
  let v155 : BitVec 32 := Scalar.subi v152 v154
  let v156 : BitVec 1 := Scalar.cmpi .ne v150 v155
  let v157 : BitVec 32 := Scalar.remsi v144 c8_i32_75
  let c0_i32_80 : BitVec 32 := 0#32
  let v158 : BitVec 1 := Scalar.cmpi .ne v157 c0_i32_80
  let v159 : BitVec 1 := Scalar.andi v156 v158
  let v145 : BitVec 32 := Scalar.divsi v144 c8_i32_75
  let c1_i32_81 : BitVec 32 := 1#32
  let v160 : BitVec 32 := Scalar.subi v145 c1_i32_81
  let v161 : BitVec 32 := Scalar.select v159 v160 v145
  let v162 : BitVec 32 := Scalar.addi c1_i32_82 v161
  let v163 : BitVec 32 := Scalar.select v143 c0_i32_83 v162
  let v166 : Index := Scalar.indexCast v163
  let c4096 : Index := 4096#32
  ![v166.toNat, 4096]
def k0_off4 (i : grid0.Coords) : Fin 2 → Nat :=
  let arg0 : BitVec 32 := BitVec.ofNat 32 (i 0).val
  let c2_i32 : BitVec 32 := 2#32
  let v0 : BitVec 32 := Scalar.muli arg0 c2_i32
  let c16_i32_73 : BitVec 32 := 16#32
  let v143 : BitVec 1 := Scalar.cmpi .slt v0 c16_i32_73
  let c0_i32_83 : BitVec 32 := 0#32
  let c1_i32_82 : BitVec 32 := 1#32
  let c16_i32_74 : BitVec 32 := 16#32
  let v144 : BitVec 32 := Scalar.subi v0 c16_i32_74
  let c0_i32_76 : BitVec 32 := 0#32
  let v146 : BitVec 1 := Scalar.cmpi .sgt v144 c0_i32_76
  let v147 : BitVec 32 := Scalar.extui v146
  let c0_i32_77 : BitVec 32 := 0#32
  let v148 : BitVec 1 := Scalar.cmpi .slt v144 c0_i32_77
  let v149 : BitVec 32 := Scalar.extui v148
  let v150 : BitVec 32 := Scalar.subi v147 v149
  let c8_i32_75 : BitVec 32 := 8#32
  let c0_i32_78 : BitVec 32 := 0#32
  let v151 : BitVec 1 := Scalar.cmpi .sgt c8_i32_75 c0_i32_78
  let v152 : BitVec 32 := Scalar.extui v151
  let c0_i32_79 : BitVec 32 := 0#32
  let v153 : BitVec 1 := Scalar.cmpi .slt c8_i32_75 c0_i32_79
  let v154 : BitVec 32 := Scalar.extui v153
  let v155 : BitVec 32 := Scalar.subi v152 v154
  let v156 : BitVec 1 := Scalar.cmpi .ne v150 v155
  let v157 : BitVec 32 := Scalar.remsi v144 c8_i32_75
  let c0_i32_80 : BitVec 32 := 0#32
  let v158 : BitVec 1 := Scalar.cmpi .ne v157 c0_i32_80
  let v159 : BitVec 1 := Scalar.andi v156 v158
  let v145 : BitVec 32 := Scalar.divsi v144 c8_i32_75
  let c1_i32_81 : BitVec 32 := 1#32
  let v160 : BitVec 32 := Scalar.subi v145 c1_i32_81
  let v161 : BitVec 32 := Scalar.select v159 v160 v145
  let v162 : BitVec 32 := Scalar.addi c1_i32_82 v161
  let v163 : BitVec 32 := Scalar.select v143 c0_i32_83 v162
  let v168 : Index := Scalar.indexCast v163
  let c5120 : Index := 5120#32
  ![v168.toNat, 5120]
def k0_cond1 (i : grid0.Coords) : BitVec 1 :=
  let arg0 : BitVec 32 := BitVec.ofNat 32 (i 0).val
  let c8_i32_118 : BitVec 32 := 8#32
  let v269 : BitVec 1 := Scalar.cmpi .slt arg0 c8_i32_118
  let v270 : BitVec 32 := Scalar.extui v269
  let c0_i32_119 : BitVec 32 := 0#32
  let v271 : BitVec 1 := Scalar.cmpi .ne v270 c0_i32_119
  v271

def k0_cond2 (i : grid0.Coords) : BitVec 1 :=
  let arg0 : BitVec 32 := BitVec.ofNat 32 (i 0).val
  let c8_i32_120 : BitVec 32 := 8#32
  let v272 : BitVec 1 := Scalar.cmpi .sge arg0 c8_i32_120
  let v273 : BitVec 32 := Scalar.extui v272
  let c0_i32_121 : BitVec 32 := 0#32
  let v274 : BitVec 1 := Scalar.cmpi .ne v273 c0_i32_121
  v274

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== BackRefIdeal.lean ====
abbrev S8192x1024 : Shape := ⟨2, ![8192, 1024]⟩
abbrev S8192x512 : Shape := ⟨2, ![8192, 512]⟩
abbrev S8x6144 : Shape := ⟨2, ![8, 6144]⟩
abbrev S6x1024 : Shape := ⟨2, ![6, 1024]⟩
abbrev S1x512 : Shape := ⟨2, ![1, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x6144 : Shape := ⟨2, ![1, 6144]⟩
abbrev S4096x6144 : Shape := ⟨2, ![4096, 6144]⟩
abbrev S2048x6144 : Shape := ⟨2, ![2048, 6144]⟩
abbrev S8192x6144 : Shape := ⟨2, ![8192, 6144]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S4096x1024 : Shape := ⟨2, ![4096, 1024]⟩

abbrev nBuf : Space → Nat
  | .hbm => 150
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .bf16⟩
  | 4 => ⟨S8192x512, .bf16⟩
  | 5 => ⟨S8192x1024, .bf16⟩
  | 6 => ⟨S8192x1024, .bf16⟩
  | 7 => ⟨S8x6144, .f32⟩
  | 8 => ⟨S6x1024, .f32⟩
  | 9 => ⟨S1x512, .f32⟩
  | 10 => ⟨S1x512, .f32⟩
  | 11 => ⟨S512x1024, .bf16⟩
  | 12 => ⟨S1024x1024, .bf16⟩
  | 13 => ⟨S1024x5632, .bf16⟩
  | 14 => ⟨S2816x1024, .bf16⟩
  | 15 => ⟨S1x6144, .f32⟩
  | 16 => ⟨S4096x6144, .f32⟩
  | 17 => ⟨S1x6144, .f32⟩
  | 18 => ⟨S2048x6144, .f32⟩
  | 19 => ⟨S1x6144, .f32⟩
  | 20 => ⟨S2048x6144, .f32⟩
  | 21 => ⟨S8192x6144, .f32⟩
  | 22 => ⟨S8192x1024, .f32⟩
  | 23 => ⟨S8192x1024, .f32⟩
  | 24 => ⟨S8192x1024, .f32⟩
  | 25 => ⟨S8192x1024, .f32⟩
  | 26 => ⟨S8192x512, .f32⟩
  | 27 => ⟨S8192x8x64, .f32⟩
  | 28 => ⟨S_, .f32⟩
  | 29 => ⟨S8192x8, .f32⟩
  | 30 => ⟨S8192x8x1, .f32⟩
  | 31 => ⟨S_, .f32⟩
  | 32 => ⟨S8192x8x1, .f32⟩
  | 33 => ⟨S8192x8x1, .f32⟩
  | 34 => ⟨S8192x8x64, .f32⟩
  | 35 => ⟨S8192x8x64, .f32⟩
  | 36 => ⟨S8192x8x64, .f32⟩
  | 37 => ⟨S_, .f32⟩
  | 38 => ⟨S8192x8, .f32⟩
  | 39 => ⟨S8192x8x1, .f32⟩
  | 40 => ⟨S_, .f32⟩
  | 41 => ⟨S8192x8x1, .f32⟩
  | 42 => ⟨S8192x8x1, .f32⟩
  | 43 => ⟨S_, .f32⟩
  | 44 => ⟨S8192x8x1, .f32⟩
  | 45 => ⟨S8192x8x1, .f32⟩
  | 46 => ⟨S8192x8x1, .f32⟩
  | 47 => ⟨S8192x8x64, .f32⟩
  | 48 => ⟨S8192x8x64, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S8192x1024, .f32⟩
  | 59 => ⟨S512x1024, .f32⟩
  | 60 => ⟨S8192x1024, .f32⟩
  | 61 => ⟨S8192x1024, .f32⟩
  | 62 => ⟨S8192x1024, .f32⟩
  | 63 => ⟨S8192x1024, .f32⟩
  | 64 => ⟨S1024x1024, .f32⟩
  | 65 => ⟨S8192x1024, .f32⟩
  | 66 => ⟨S1x1024, .f32⟩
  | 67 => ⟨S1024, .f32⟩
  | 68 => ⟨S8192x1024, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x1, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S1024, .f32⟩
  | 88 => ⟨S8192x1024, .f32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x1, .f32⟩
  | 99 => ⟨S8192x1024, .f32⟩
  | 100 => ⟨S8192x1024, .f32⟩
  | 101 => ⟨S1x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S1024x5632, .f32⟩
  | 113 => ⟨S2816x1024, .f32⟩
  | 114 => ⟨S8192x5632, .f32⟩
  | 115 => ⟨S8192x2816, .f32⟩
  | 116 => ⟨S8192x2816, .f32⟩
  | 117 => ⟨S8192x2816, .f32⟩
  | 118 => ⟨S8192x2816, .f32⟩
  | 119 => ⟨S_, .f32⟩
  | 120 => ⟨S8192x2816, .f32⟩
  | 121 => ⟨S8192x2816, .f32⟩
  | 122 => ⟨S_, .f32⟩
  | 123 => ⟨S8192x2816, .f32⟩
  | 124 => ⟨S8192x2816, .f32⟩
  | 125 => ⟨S8192x2816, .f32⟩
  | 126 => ⟨S8192x2816, .f32⟩
  | 127 => ⟨S8192x1024, .f32⟩
  | _ => ⟨S8192x1024, .f32⟩

abbrev hbmTy0_1 (i : Nat) : BufTy := match i % 128 with
  | 0 => ⟨S1x1024, .f32⟩
  | 1 => ⟨S1024, .f32⟩
  | 2 => ⟨S8192x1024, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192x1, .f32⟩
  | 11 => ⟨S8192x1, .f32⟩
  | 12 => ⟨S8192x1, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S4096x1024, .f32⟩
  | 21 => ⟨S4096x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_7 : Ref sig .tc := ⟨.hbm, 89, rfl⟩
abbrev main_v66 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_v69 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_12 : Ref sig .tc := ⟨.hbm, 119, rfl⟩
abbrev main_v91 : Ref sig .tc := ⟨.hbm, 120, rfl⟩
abbrev main_v92 : Ref sig .tc := ⟨.hbm, 121, rfl⟩
abbrev main_cst_13 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_14 : Ref sig .tc := ⟨.hbm, 131, rfl⟩
abbrev main_v101 : Ref sig .tc := ⟨.hbm, 132, rfl⟩
abbrev main_v102 : Ref sig .tc := ⟨.hbm, 133, rfl⟩
abbrev main_cst_15 : Ref sig .tc := ⟨.hbm, 134, rfl⟩
abbrev main_v103 : Ref sig .tc := ⟨.hbm, 135, rfl⟩
abbrev main_v104 : Ref sig .tc := ⟨.hbm, 136, rfl⟩
abbrev main_cst_16 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩

abbrev nD : Nat := 1
abbrev τ : Topo := Topo.v7x

variable {F : FTy → Type} [FloatOps F]
-- ==== Ffn.lean ====
abbrev S4096x1024 : Shape := ⟨2, ![4096, 1024]⟩
abbrev S6x1024 : Shape := ⟨2, ![6, 1024]⟩
abbrev S1024x5632 : Shape := ⟨2, ![1024, 5632]⟩
abbrev S2816x1024 : Shape := ⟨2, ![2816, 1024]⟩
abbrev S1x1024 : Shape := ⟨2, ![1, 1024]⟩
abbrev S2x1024 : Shape := ⟨2, ![2, 1024]⟩
abbrev S1024x9216 : Shape := ⟨2, ![1024, 9216]⟩
abbrev S1x9216 : Shape := ⟨2, ![1, 9216]⟩
abbrev S8192x1024 : Shape := ⟨2, ![8192, 1024]⟩
abbrev S8x6144 : Shape := ⟨2, ![8, 6144]⟩
abbrev S512x1024 : Shape := ⟨2, ![512, 1024]⟩
abbrev S1024x512 : Shape := ⟨2, ![1024, 512]⟩
abbrev S256x1024 : Shape := ⟨2, ![256, 1024]⟩
abbrev S64x5632 : Shape := ⟨2, ![64, 5632]⟩
abbrev S1x512 : Shape := ⟨2, ![1, 512]⟩
abbrev S8x512 : Shape := ⟨2, ![8, 512]⟩
abbrev S8x3072 : Shape := ⟨2, ![8, 3072]⟩
abbrev S8x1024 : Shape := ⟨2, ![8, 1024]⟩
abbrev S5x1024 : Shape := ⟨2, ![5, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 13
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x5632, .f32⟩
  | .hbm, ⟨4, _⟩ => ⟨S2816x1024, .f32⟩
  | .hbm, ⟨5, _⟩ => ⟨S1024x5632, .f32⟩
  | .hbm, ⟨6, _⟩ => ⟨S1x1024, .f32⟩
  | .hbm, ⟨7, _⟩ => ⟨S2x1024, .f32⟩
  | .hbm, ⟨8, _⟩ => ⟨S1024x9216, .f32⟩
  | .hbm, ⟨9, _⟩ => ⟨S1x9216, .f32⟩
  | .hbm, ⟨10, _⟩ => ⟨S8192x1024, .f32⟩
  | .hbm, ⟨11, _⟩ => ⟨S1024x5632, .bf16⟩
  | .hbm, ⟨12, _⟩ => ⟨S8x6144, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S6x1024, .f32⟩
  | .local _ .vmem, ⟨5, _⟩ => ⟨S1024x512, .f32⟩
  | .local _ .vmem, ⟨6, _⟩ => ⟨S1024x512, .f32⟩
  | .local _ .vmem, ⟨7, _⟩ => ⟨S256x1024, .f32⟩
  | .local _ .vmem, ⟨8, _⟩ => ⟨S256x1024, .f32⟩
  | .local _ .vmem, ⟨9, _⟩ => ⟨S64x5632, .f32⟩
  | .local _ .vmem, ⟨10, _⟩ => ⟨S64x5632, .f32⟩
  | .local _ .vmem, ⟨11, _⟩ => ⟨S1x1024, .f32⟩
  | .local _ .vmem, ⟨12, _⟩ => ⟨S2x1024, .f32⟩
  | .local _ .vmem, ⟨13, _⟩ => ⟨S1024x512, .f32⟩
  | .local _ .vmem, ⟨14, _⟩ => ⟨S1024x512, .f32⟩
  | .local _ .vmem, ⟨15, _⟩ => ⟨S1x512, .f32⟩
  | .local _ .vmem, ⟨16, _⟩ => ⟨S1x512, .f32⟩
  | .local _ .vmem, ⟨17, _⟩ => ⟨S512x1024, .f32⟩
  | .local _ .vmem, ⟨18, _⟩ => ⟨S512x1024, .f32⟩
  | .local _ .vmem, ⟨19, _⟩ => ⟨S64x5632, .bf16⟩
  | .local _ .vmem, ⟨20, _⟩ => ⟨S64x5632, .bf16⟩
  | .local _ .vmem, ⟨21, _⟩ => ⟨S8x512, .f32⟩
  | .local _ .vmem, ⟨22, _⟩ => ⟨S8x512, .f32⟩
  | .local _ .vmem, ⟨23, _⟩ => ⟨S1024x5632, .bf16⟩
  | .local _ .vmem, ⟨24, _⟩ => ⟨S2816x1024, .bf16⟩
  | .local _ .vmem, ⟨25, _⟩ => ⟨S8x3072, .f32⟩
  | .local _ .vmem, ⟨26, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c11_i32 : BitVec 32 := 11#32
  let v0 : BitVec 1 := Scalar.cmpi .slt arg0 c11_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c512_i32 : BitVec 32 := 512#32
  let v15 : BitVec 32 := Scalar.muli arg0 c512_i32
  v15
def k0_off1 (i : grid0.Coords) : Fin 2 → Nat :=
  let c0_8 : Index := 0#32
  let arg0 : BitVec 32 := BitVec.ofNat 32 (i 0).val
  let c512_i32 : BitVec 32 := 512#32
  let v15 : BitVec 32 := Scalar.muli arg0 c512_i32
  let v16 : BitVec 32 := v15
  let v19 : Index := Scalar.indexCast v16
  ![0, v19.toNat]
def k0_cond2 (i : grid0.Coords) : BitVec 1 :=
  let arg0 : BitVec 32 := BitVec.ofNat 32 (i 0).val
  let c11_i32_0 : BitVec 32 := 11#32
  let v3 : BitVec 1 := Scalar.cmpi .slt arg0 c11_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c256_i32 : BitVec 32 := 256#32
  let v15 : BitVec 32 := Scalar.muli arg0 c256_i32
  v15
def k0_off2 (i : grid0.Coords) : Fin 2 → Nat :=
  let arg0 : BitVec 32 := BitVec.ofNat 32 (i 0).val
  let c256_i32 : BitVec 32 := 256#32
  let v15 : BitVec 32 := Scalar.muli arg0 c256_i32
  let v16 : BitVec 32 := v15
  let v19 : Index := Scalar.indexCast v16
  let c0_8 : Index := 0#32
  ![v19.toNat, 0]
def k0_cond4 (i : grid0.Coords) : BitVec 1 :=
  let arg0 : BitVec 32 := BitVec.ofNat 32 (i 0).val
  let c6_i32 : BitVec 32 := 6#32
  let v9 : BitVec 1 := Scalar.cmpi .slt arg0 c6_i32
  let v10 : BitVec 32 := Scalar.extui v9
  let c0_i32_4 : BitVec 32 := 0#32
  let v11 : BitVec 1 := Scalar.cmpi .ne v10 c0_i32_4
  v11

def k0_mult3 (i : grid0.Coords) : BitVec 32 :=
  let arg0 : BitVec 32 := BitVec.ofNat 32 (i 0).val
  let c512_i32 : BitVec 32 := 512#32
  let v15 : BitVec 32 := Scalar.muli arg0 c512_i32
  v15
def k0_off3 (i : grid0.Coords) : Fin 2 → Nat :=
  let c0_12 : Index := 0#32
  let arg0 : BitVec 32 := BitVec.ofNat 32 (i 0).val
  let c512_i32 : BitVec 32 := 512#32
  let v15 : BitVec 32 := Scalar.muli arg0 c512_i32
  let v16 : BitVec 32 := v15
  let v25 : Index := Scalar.indexCast v16
  ![0, v25.toNat]
def k0_cond5 (i : grid0.Coords) : BitVec 1 :=
  let arg0 : BitVec 32 := BitVec.ofNat 32 (i 0).val
  let c11_i32_5 : BitVec 32 := 11#32
  let v12 : BitVec 1 := Scalar.cmpi .sge arg0 c11_i32_5
  let v13 : BitVec 32 := Scalar.extui v12
  let c0_i32_6 : BitVec 32 := 0#32
  let v14 : BitVec 1 := Scalar.cmpi .ne v13 c0_i32_6
  v14

def k0_off4 (i : grid0.Coords) : Fin 2 → Nat :=
  let arg0 : BitVec 32 := BitVec.ofNat 32 (i 0).val
  let c11_i32_11 : BitVec 32 := 11#32
  let v20 : BitVec 32 := Scalar.subi arg0 c11_i32_11
  let c2_i32 : BitVec 32 := 2#32
  let v21 : BitVec 32 := Scalar.muli v20 c2_i32
  let c16_i32 : BitVec 32 := 16#32
  let v22 : BitVec 1 := Scalar.cmpi .slt v21 c16_i32
  let c0_i32_20 : BitVec 32 := 0#32
  let c1_i32_19 : BitVec 32 := 1#32
  let c16_i32_12 : BitVec 32 := 16#32
  let v23 : BitVec 32 := Scalar.subi v21 c16_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c8_i32_13 : BitVec 32 := 8#32
  let c0_i32_16 : BitVec 32 := 0#32
  let v30 : BitVec 1 := Scalar.cmpi .sgt c8_i32_13 c0_i32_16
  let v31 : BitVec 32 := Scalar.extui v30
  let c0_i32_17 : BitVec 32 := 0#32
  let v32 : BitVec 1 := Scalar.cmpi .slt c8_i32_13 c0_i32_17
  let v33 : BitVec 32 := Scalar.extui v32
  let v34 : BitVec 32 := Scalar.subi v31 v33
  let v35 : BitVec 1 := Scalar.cmpi .ne v29 v34
  let v36 : BitVec 32 := Scalar.remsi v23 c8_i32_13
  let c0_i32_18 : BitVec 32 := 0#32
  let v37 : BitVec 1 := Scalar.cmpi .ne v36 c0_i32_18
  let v38 : BitVec 1 := Scalar.andi v35 v37
  let v24 : BitVec 32 := Scalar.divsi v23 c8_i32_13
  let c1_i32 : BitVec 32 := 1#32
  let v39 : BitVec 32 := Scalar.subi v24 c1_i32
  let v40 : BitVec 32 := Scalar.select v38 v39 v24
  let v41 : BitVec 32 := Scalar.addi c1_i32_19 v40
  let v42 : BitVec 32 := Scalar.select v22 c0_i32_20 v41
  let v43 : Index := Scalar.indexCast v42
  let c0_21 : Index := 0#32
  ![v43.toNat, 0]
def k0_off5 (i : grid0.Coords) : Fin 2 → Nat :=
  let arg0 : BitVec 32 := BitVec.ofNat 32 (i 0).val
  let c11_i32_11 : BitVec 32 := 11#32
  let v20 : BitVec 32 := Scalar.subi arg0 c11_i32_11
  let c2_i32 : BitVec 32 := 2#32
  let v21 : BitVec 32 := Scalar.muli v20 c2_i32
  let c16_i32 : BitVec 32 := 16#32
  let v22 : BitVec 1 := Scalar.cmpi .slt v21 c16_i32
  let c0_i32_20 : BitVec 32 := 0#32
  let c1_i32_19 : BitVec 32 := 1#32
  let c16_i32_12 : BitVec 32 := 16#32
  let v23 : BitVec 32 := Scalar.subi v21 c16_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c8_i32_13 : BitVec 32 := 8#32
  let c0_i32_16 : BitVec 32 := 0#32
  let v30 : BitVec 1 := Scalar.cmpi .sgt c8_i32_13 c0_i32_16
  let v31 : BitVec 32 := Scalar.extui v30
  let c0_i32_17 : BitVec 32 := 0#32
  let v32 : BitVec 1 := Scalar.cmpi .slt c8_i32_13 c0_i32_17
  let v33 : BitVec 32 := Scalar.extui v32
  let v34 : BitVec 32 := Scalar.subi v31 v33
  let v35 : BitVec 1 := Scalar.cmpi .ne v29 v34
  let v36 : BitVec 32 := Scalar.remsi v23 c8_i32_13
  let c0_i32_18 : BitVec 32 := 0#32
  let v37 : BitVec 1 := Scalar.cmpi .ne v36 c0_i32_18
  let v38 : BitVec 1 := Scalar.andi v35 v37
  let v24 : BitVec 32 := Scalar.divsi v23 c8_i32_13
  let c1_i32 : BitVec 32 := 1#32
  let v39 : BitVec 32 := Scalar.subi v24 c1_i32
  let v40 : BitVec 32 := Scalar.select v38 v39 v24
  let v41 : BitVec 32 := Scalar.addi c1_i32_19 v40
  let v42 : BitVec 32 := Scalar.select v22 c0_i32_20 v41
  let v45 : Index := Scalar.indexCast v42
  let c1024 : Index := 1024#32
  ![v45.toNat, 1024]
def k0_off6 (i : grid0.Coords) : Fin 2 → Nat :=
  let arg0 : BitVec 32 := BitVec.ofNat 32 (i 0).val
  let c11_i32_11 : BitVec 32 := 11#32
  let v20 : BitVec 32 := Scalar.subi arg0 c11_i32_11
  let c2_i32 : BitVec 32 := 2#32
  let v21 : BitVec 32 := Scalar.muli v20 c2_i32
  let c16_i32 : BitVec 32 := 16#32
  let v22 : BitVec 1 := Scalar.cmpi .slt v21 c16_i32
  let c0_i32_20 : BitVec 32 := 0#32
  let c1_i32_19 : BitVec 32 := 1#32
  let c16_i32_12 : BitVec 32 := 16#32
  let v23 : BitVec 32 := Scalar.subi v21 c16_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c8_i32_13 : BitVec 32 := 8#32
  let c0_i32_16 : BitVec 32 := 0#32
  let v30 : BitVec 1 := Scalar.cmpi .sgt c8_i32_13 c0_i32_16
  let v31 : BitVec 32 := Scalar.extui v30
  let c0_i32_17 : BitVec 32 := 0#32
  let v32 : BitVec 1 := Scalar.cmpi .slt c8_i32_13 c0_i32_17
  let v33 : BitVec 32 := Scalar.extui v32
  let v34 : BitVec 32 := Scalar.subi v31 v33
  let v35 : BitVec 1 := Scalar.cmpi .ne v29 v34
  let v36 : BitVec 32 := Scalar.remsi v23 c8_i32_13
  let c0_i32_18 : BitVec 32 := 0#32
  let v37 : BitVec 1 := Scalar.cmpi .ne v36 c0_i32_18
  let v38 : BitVec 1 := Scalar.andi v35 v37
  let v24 : BitVec 32 := Scalar.divsi v23 c8_i32_13
  let c1_i32 : BitVec 32 := 1#32
  let v39 : BitVec 32 := Scalar.subi v24 c1_i32
  let v40 : BitVec 32 := Scalar.select v38 v39 v24
  let v41 : BitVec 32 := Scalar.addi c1_i32_19 v40
  let v42 : BitVec 32 := Scalar.select v22 c0_i32_20 v41
  let v47 : Index := Scalar.indexCast v42
  let c2048 : Index := 2048#32
  ![v47.toNat, 2048]
def k0_cond6 (i : grid0.Coords) : BitVec 1 :=
  let arg0 : BitVec 32 := BitVec.ofNat 32 (i 0).val
  let c11_i32_62 : BitVec 32 := 11#32
  let v152 : BitVec 32 := Scalar.subi arg0 c11_i32_62
  let c12_i32 : BitVec 32 := 12#32
  let v153 : BitVec 1 := Scalar.cmpi .slt v152 c12_i32
  let v154 : BitVec 32 := Scalar.extui v153
  let c0_i32_63 : BitVec 32 := 0#32
  let v155 : BitVec 1 := Scalar.cmpi .ne v154 c0_i32_63
  v155

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c8_i32 : BitVec 32 := 8#32
  let v2 : BitVec 32 := Scalar.subi v1 c8_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c11_i32 : BitVec 32 := 11#32
  let v0 : BitVec 1 := Scalar.cmpi .slt arg0 c11_i32
  let c5_i32 : BitVec 32 := 5#32
  let v1 : BitVec 32 := Scalar.minsi arg0 c5_i32
  let c11_i32_0 : BitVec 32 := 11#32
  let v2 : BitVec 32 := Scalar.subi arg0 c11_i32_0
  let c0_i32 : BitVec 32 := 0#32
  let v3 : BitVec 32 := Scalar.maxsi v2 c0_i32
  let c11_i32_1 : BitVec 32 := 11#32
  let v4 : BitVec 32 := Scalar.minsi v3 c11_i32_1
  let c6_i32 : BitVec 32 := 6#32
  let v5 : BitVec 32 := Scalar.addi c6_i32 v4
  let v6 : BitVec 32 := Scalar.select v0 v1 v5
  let c0_i32_2 : BitVec 32 := 0#32
  let c0_i32_3 : BitVec 32 := 0#32
  ![c0_i32_2.toNat, v6.toNat]

def cc0_transform_9 (i : grid0.Coords) : Fin 2 → Nat :=
  let arg0 : BitVec 32 := BitVec.ofNat 32 (i 0).val
  let c11_i32 : BitVec 32 := 11#32
  let v0 : BitVec 1 := Scalar.cmpi .slt arg0 c11_i32
  let c5_i32 : BitVec 32 := 5#32
  let v1 : BitVec 32 := Scalar.minsi arg0 c5_i32
  let c11_i32_0 : BitVec 32 := 11#32
  let v2 : BitVec 32 := Scalar.subi arg0 c11_i32_0
  let c0_i32 : BitVec 32 := 0#32
  let v3 : BitVec 32 := Scalar.maxsi v2 c0_i32
  let c11_i32_1 : BitVec 32 := 11#32
  let v4 : BitVec 32 := Scalar.minsi v3 c11_i32_1
  let c6_i32 : BitVec 32 := 6#32
  let v5 : BitVec 32 := Scalar.addi c6_i32 v4
  let v6 : BitVec 32 := Scalar.select v0 v1 v5
  let c0_i32_2 : BitVec 32 := 0#32
  let c0_i32_3 : BitVec 32 := 0#32
  ![c0_i32_2.toNat, v6.toNat]

def cc0_transform_10 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c11_i32_0 : BitVec 32 := 11#32
  let v2 : BitVec 32 := Scalar.minsi v1 c11_i32_0
  let c0_i32_1 : BitVec 32 := 0#32
  let c0_i32_2 : BitVec 32 := 0#32
  ![c0_i32_1.toNat, v2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnRefIdeal.lean ====
abbrev S4096x1024 : Shape := ⟨2, ![4096, 1024]⟩
abbrev S6x1024 : Shape := ⟨2, ![6, 1024]⟩
abbrev S1024x5632 : Shape := ⟨2, ![1024, 5632]⟩
abbrev S2816x1024 : Shape := ⟨2, ![2816, 1024]⟩
abbrev S1x1024 : Shape := ⟨2, ![1, 1024]⟩
abbrev S2x1024 : Shape := ⟨2, ![2, 1024]⟩
abbrev S1024x9216 : Shape := ⟨2, ![1024, 9216]⟩
abbrev S1x9216 : Shape := ⟨2, ![1, 9216]⟩
abbrev S_ : Shape := ⟨0, ![]⟩
abbrev S5x1024 : Shape := ⟨2, ![5, 1024]⟩
abbrev S8x1024 : Shape := ⟨2, ![8, 1024]⟩
abbrev S8x9216 : Shape := ⟨2, ![8, 9216]⟩
abbrev S4096x9216 : Shape := ⟨2, ![4096, 9216]⟩
abbrev S2048x9216 : Shape := ⟨2, ![2048, 9216]⟩
abbrev S8192x9216 : Shape := ⟨2, ![8192, 9216]⟩
abbrev S8192x1024 : Shape := ⟨2, ![8192, 1024]⟩
abbrev S1024 : Shape := ⟨1, ![1024]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8x6144 : Shape := ⟨2, ![8, 6144]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x5632, .f32⟩
  | .hbm, ⟨4, _⟩ => ⟨S2816x1024, .f32⟩
  | .hbm, ⟨5, _⟩ => ⟨S1024x5632, .f32⟩
  | .hbm, ⟨6, _⟩ => ⟨S1x1024, .f32⟩
  | .hbm, ⟨7, _⟩ => ⟨S2x1024, .f32⟩
  | .hbm, ⟨8, _⟩ => ⟨S1024x9216, .f32⟩
  | .hbm, ⟨9, _⟩ => ⟨S1x9216, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S2x1024, .f32⟩
  | .hbm, ⟨23, _⟩ => ⟨S2x1024, .f32⟩
  | .hbm, ⟨24, _⟩ => ⟨S_, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S_, .f32⟩
  | .hbm, ⟨29, _⟩ => ⟨S5x1024, .f32⟩
  | .hbm, ⟨30, _⟩ => ⟨S8x1024, .f32⟩
  | .hbm, ⟨31, _⟩ => ⟨S8x9216, .f32⟩
  | .hbm, ⟨32, _⟩ => ⟨S8x9216, .f32⟩
  | .hbm, ⟨33, _⟩ => ⟨S8x9216, .f32⟩
  | .hbm, ⟨34, _⟩ => ⟨S1x9216, .f32⟩
  | .hbm, ⟨35, _⟩ => ⟨S4096x9216, .f32⟩
  | .hbm, ⟨36, _⟩ => ⟨S1x9216, .f32⟩
  | .hbm, ⟨37, _⟩ => ⟨S2048x9216, .f32⟩
  | .hbm, ⟨38, _⟩ => ⟨S1x9216, .f32⟩
  | .hbm, ⟨39, _⟩ => ⟨S2048x9216, .f32⟩
  | .hbm, ⟨40, _⟩ => ⟨S8192x9216, .f32⟩
  | .hbm, ⟨41, _⟩ => ⟨S8192x1024, .f32⟩
  | .hbm, ⟨42, _⟩ => ⟨S1x1024, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x5632, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S_, .f32⟩
  | .hbm, ⟨77, _⟩ => ⟨S8192x2816, .f32⟩
  | .hbm, ⟨78, _⟩ => ⟨S8192x2816, .f32⟩
  | .hbm, ⟨79, _⟩ => ⟨S_, .f32⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S8192x2816, .f32⟩
  | .hbm, ⟨84, _⟩ => ⟨S8192x1024, .f32⟩
  | .hbm, ⟨85, _⟩ => ⟨S1x1024, .f32⟩
  | .hbm, ⟨86, _⟩ => ⟨S1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S1x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S1024x5632, .bf16⟩
  | .hbm, ⟨106, _⟩ => ⟨S8x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Proof.BackPlain.RunA.lean ====
/- The frame and the run of the program Back, window by window: part RunA. -/
module

public import proofs.«01_k».proof.Proof.BackPlain.Runs

@[expose] public section

-- membership in a rectangle of production extents (`View.cover_of_tiled`): the elaborator's structural look
-- recurses once per coordinate of the long axes
set_option maxRecDepth 16384

noncomputable section

namespace Cert.Back.Hand

open Cert.Back.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0, 1, … 7: 8 of 16): on whole staging memrefs — the inputs' at their contents,
    the FORGOTTEN outputs' (16, 17) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : cond0_0 i) (hc1 : ¬cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)) -∗ K ⟨⟩))
          ⊢ wp frame (wpE (defs₀ (F := F)) Variants.none c none) E (cc0_back_ffn2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_back_ffn2_eq_skeleton]; unfold cc0_back_ffn2_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    iexists _, _; isplitr; swap; · iexact H17
    ipureintro; rfl

end Cert.Back.Hand

end
-- ==== Proof.BackPlain.RunB.lean ====
/- The frame and the run of the program Back, window by window: part RunB. -/
module

public import proofs.«01_k».proof.Proof.BackPlain.RunA

@[expose] public section

-- membership in a rectangle of production extents (`View.cover_of_tiled`): the elaborator's structural look
-- recurses once per coordinate of the long axes
set_option maxRecDepth 16384

noncomputable section

namespace Cert.Back.Hand

open Cert.Back.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken: points 8, 9, … 15: 8 of 16): on whole staging memrefs — the inputs' at their contents,
    the FORGOTTEN outputs' (16, 17) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : ¬cond0_0 i) (hc1 : cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)) -∗ K ⟨⟩))
          ⊢ wp frame (wpE (defs₀ (F := F)) Variants.none c none) E (cc0_back_ffn2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_back_ffn2_eq_skeleton]; unfold cc0_back_ffn2_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    iexists _, _; isplitr; swap; · iexact H17
    ipureintro; rfl

end Cert.Back.Hand

end
-- ==== Proof.BackPlain.Frame.lean ====
/- The frame and the run of the program Back, window by window: part Frame. -/
module

public import proofs.«01_k».proof.Proof.BackPlain.RunB
public import Idealize.ShloMosaic.Lib.Claim

@[expose] public section

-- membership in a rectangle of production extents (`View.cover_of_tiled`): the elaborator's structural look
-- recurses once per coordinate of the long axes
set_option maxRecDepth 16384

noncomputable section

namespace Cert.Back.Hand

open Cert.Back.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (16, 17): nothing reads what the kernel leaves in them, so nothing
    of it is named (Lib/Pipeline/Dat.lean `Dat.toRForget`). -/
def forgets0 : Fin 18 → Bool := fun w => w.val == 16 || w.val == 17

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (∃ d, owns (c : Thread nD τ) (ms0_17 t) fullShare d))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val < 8
  · by_cases h1 : 8 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      iintro ⟨H0, H1, H2, H3, H4, H5, H6, H7, H8, H9, H10, H11, H12, H13, H14, H15, H16, H17⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
  · by_cases h1 : 8 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      iintro ⟨H0, H1, H2, H3, H4, H5, H6, H7, H8, H9, H10, H11, H12, H13, H14, H15, H16, H17⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 16, 17) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- THE FRAME: `Cert.quiescent_Back`'s statement (Defs.lean) at any `F` — Proof.lean cites it at `Bits`:
    `theorem Cert.Proof.claim : Cert.Claim := ⟨Cert.Back.Gen.facts, fun m ρ _ => Cert.Back.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Back.Hand

end
-- ==== Proof.BackHand.Runs.lean ====
/- The frame and the run of the program BackIdeal, window by window: part Runs. -/
module

public import proofs.«01_k».proof.Proof.Gen.BackIdeal.Launch
public import proofs.«01_k».proof.Proof.Gen.BackIdeal.Skeleton
public import proofs.«01_k».proof.Proof.Gen.BackIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.BackIdeal.Hand

open Cert.BackIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_BackIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 14).trans (((dats 0 c).arrAt_in 14 rfl _).trans ((hA c 14).trans (V_main_arg13 m c))),
      ((h c).1 15).trans (((dats 0 c).arrAt_in 15 rfl _).trans ((hA c 15).trans (V_main_arg14 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — decided over the grid. -/
theorem hcond0_0 : ∀ t : Fin cfg0.N, cond0_0 (grid0.coords t) ↔ t.val < 8 :=
  (by decide +kernel : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at the points from point 8 on — decided over the grid. -/
theorem hcond0_1 : ∀ t : Fin cfg0.N, cond0_1 (grid0.coords t) ↔ 8 ≤ t.val :=
  (by decide +kernel : ∀ t : Fin grid0.N, cond0_1 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Whether output 16's buffer is FRESH at each position `1 ‥ N` — holds nothing the body stored since the region's entry or the
    last write-back (written back at the point before, or idle there and fresh before it) —, as a bitmask the classifier
    computed, bit `n` for position `n + 1`; position 0 is fresh. `freshTab0_16_step` checks it against the configuration's own
    step point by point and Lib/Pipeline/TableIdle.lean `Cfg.fresh_tab` makes it `Cfg.fresh` (`fresh0_16_eq`). -/
def freshTab0_16 : ℕ → Bool
  | 0 => true
  | n + 1 => (0x807f : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- At the points of case A the printed configuration (`Cfg.idle`) calls output 16 live: the case stores into it. -/
theorem liveAt0_16_A : ∀ t : Fin cfg0.N, cond0_0 (grid0.coords t) → ¬cond0_1 (grid0.coords t) → cfg0.idle 16 (grid0.coords t) = false := by decide +kernel
/-- At the points of case B the printed configuration (`Cfg.idle`) calls output 16 idle: the case stores nothing into it. -/
theorem idleAt0_16_B : ∀ t : Fin cfg0.N, ¬cond0_0 (grid0.coords t) → cond0_1 (grid0.coords t) → cfg0.idle 16 (grid0.coords t) = true := by decide +kernel
/-- At the points of case B output 16's buffer is not fresh: it still holds what the last point of case A stored. -/
theorem notFresh0_16_B : ∀ t : Fin cfg0.N, ¬cond0_0 (grid0.coords t) → cond0_1 (grid0.coords t) → freshTab0_16 t.val = false := by decide +kernel
/-- At the points of case A the printed configuration (`Cfg.idle`) calls output 17 idle: the case stores nothing into it. -/
theorem idleAt0_17_A : ∀ t : Fin cfg0.N, cond0_0 (grid0.coords t) → ¬cond0_1 (grid0.coords t) → cfg0.idle 17 (grid0.coords t) = true := by decide +kernel
/-- At the points of case A the pipeline does not write output 17's block back. -/
theorem noFlush0_17_A : ∀ t : Fin cfg0.N, cond0_0 (grid0.coords t) → ¬cond0_1 (grid0.coords t) → (cfg0.win 17).flush t = false := by decide +kernel
/-- At the points of case B the printed configuration (`Cfg.idle`) calls output 17 live: the case stores into it. -/
theorem liveAt0_17_B : ∀ t : Fin cfg0.N, ¬cond0_0 (grid0.coords t) → cond0_1 (grid0.coords t) → cfg0.idle 17 (grid0.coords t) = false := by decide +kernel

/-! ## The kernel body on any staging memrefs: a subtype the run finds -/

/-- One staging buffer of output window 16, through which its contents are stated (`View.read_writes_of_cover`: the
    choice does not matter). -/
abbrev VO0_16 : View sig .tc .vmem S512x1024 .f32 := (Memref.whole cc0_stg16_0 : Memref sig .tc .vmem S512x1024 .f32).view
/-- One staging buffer of output window 17, through which its contents are stated (`View.read_writes_of_cover`: the
    choice does not matter). -/
abbrev VO0_17 : View sig .tc .vmem S512x1024 .f32 := (Memref.whole cc0_stg17_0 : Memref sig .tc .vmem S512x1024 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x6144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S6x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x5632 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2816x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x1024 .f32 := win0_17.stage (cfg0.slots t 17)
abbrev hs0_17 (t : Fin cfg0.N) : (ms0_17 t).IsWhole := hstage0_17 ((cfg0.slots t 17).cast nbuf0_17)

end Cert.BackIdeal.Hand

end
-- ==== Proof.BackSpec.lean ====
/- The value of the back half of the layer, token by token, over the extended reals. -/
module

public import Idealize.ShloMosaic.Lib.Pointwise

@[expose] public section

noncomputable section

namespace Cert.BackSpec

open Idealize.ShloMosaic

/-- The numbers 64, 1024, one half and the two epsilons, as the programs spell them. -/
abbrev c64 : EReal := Ideal.ofBits .f32 1115684864#32
abbrev c1024 : EReal := Ideal.ofBits .f32 1149239296#32
abbrev half : EReal := Ideal.ofBits .f32 1056964608#32
abbrev epsGn : EReal := Ideal.ofBits .f32 975685036#32
abbrev epsRms : EReal := Ideal.ofBits .f32 897988541#32

/-- Channel `x` of the head that holds channel `k`. -/
def inHead (k : Fin 512) (x : Fin 64) : Fin 512 := ⟨k.val / 64 * 64 + x.val, by omega⟩

/-- One token's row less the mean of its head. -/
def yc (y : Fin 512 → EReal) (k : Fin 512) : EReal := y k - Ideal.div (∑ x, y (inHead k x)) c64

/-- The group norm of a row over each head of 64 channels. -/
def gn (y gg gb : Fin 512 → EReal) (k : Fin 512) : EReal :=
  yc y k * Ideal.rsqrt (Ideal.div (∑ x, yc y (inHead k x) * yc y (inHead k x)) c64 + epsGn) * gg k + gb k

/-- RMSNorm of a row of 1024 channels. -/
def rms (v g : Fin 1024 → EReal) (j : Fin 1024) : EReal :=
  v j * Ideal.rsqrt (Ideal.div (∑ x, v x * v x) c1024 + epsRms) * g j

/-- What one token reads: its own rows, its modulation's row, and the weights. -/
structure Tok where
  x : Fin 1024 → EReal
  yf : Fin 512 → EReal
  yb : Fin 512 → EReal
  bv : Fin 512 → EReal
  sg : Fin 512 → EReal
  sa : Fin 1024 → EReal
  mb : Fin 1024 → EReal
  md : Fin 6144 → EReal
  g : Fin 6 → Fin 1024 → EReal
  gg : Fin 512 → EReal
  gb : Fin 512 → EReal
  wa : Fin 512 → Fin 1024 → EReal
  wo : Fin 1024 → Fin 1024 → EReal
  w13 : Fin 1024 → Fin 5632 → EReal
  w2 : Fin 2816 → Fin 1024 → EReal

/-- The two directions' sum. -/
def Tok.y (p : Tok) (k : Fin 512) : EReal := p.yf k + p.yb k

/-- The mixer's output: group norm, bonus and gate, branch projection, merge, output projection. -/
def Tok.mix (p : Tok) (j : Fin 1024) : EReal :=
  ∑ x, (p.sa x * ∑ k, (gn p.y p.gg p.gb k + p.bv k) * p.sg k * p.wa k x + p.mb x) * p.wo x j

/-- The token after the mixing block. -/
def Tok.x2 (p : Tok) (j : Fin 1024) : EReal :=
  p.x j + p.md ⟨2048 + j.val, by omega⟩ * rms p.mix (p.g 3) j

/-- The second feed-forward block's modulated input. -/
def Tok.h (p : Tok) (j : Fin 1024) : EReal :=
  rms p.x2 (p.g 4) j * (1 + p.md ⟨4096 + j.val, by omega⟩) + p.md ⟨3072 + j.val, by omega⟩

/-- Its first product. -/
def Tok.gu (p : Tok) (j : Fin 5632) : EReal := ∑ x, p.h x * p.w13 x j

/-- Its second product, of the gated activation. -/
def Tok.ff (p : Tok) (j : Fin 1024) : EReal :=
  ∑ x : Fin 2816, p.gu ⟨x.val, by omega⟩ * Ideal.div 1 (1 + Ideal.exp (-p.gu ⟨x.val, by omega⟩))
    * p.gu ⟨2816 + x.val, by omega⟩ * p.w2 x j

/-- The token after the layer. -/
def Tok.out (p : Tok) (j : Fin 1024) : EReal :=
  p.x2 j + half * p.md ⟨5120 + j.val, by omega⟩ * rms p.ff (p.g 5) j

/-- The row of the modulation that token `r` reads. -/
def modRow (r : Fin 8192) : Fin 8 := if r.val < 4096 then 0 else if r.val < 6144 then 1 else 2

end Cert.BackSpec
-- ==== Proof.BackIn.lean ====
/- What the kernel's windows hold at a grid point, read at one row: the rows of the arguments. -/
module

public import proofs.«01_k».proof.Proof.BackHand.Runs
public import proofs.«01_k».proof.Proof.BackSpec
public import Idealize.ShloMosaic.Lib.Pointwise
public import Idealize.ShloMosaic.Lib.StableHlo.Run
public import Idealize.ShloMosaic.Lib.Claim

@[expose] public section

set_option maxRecDepth 16384

noncomputable section

namespace Cert.BackIdeal.Row

open Cert.BackIdeal Cert.BackIdeal.Gen Cert.BackIdeal.Hand Idealize.ShloMosaic Idealize.ShloMosaic.TcCoe Idealize.SL.Sem
open Cert.BackSpec

variable (m : (ℓ : Loc nD τ sig) → Buf (Elt Ideal) ℓ)

/-- What token `r` reads of the arguments, as the kernel's program holds them. -/
def tok (c : Dev nD) (r : Fin 8192) : Tok where
  x j := m ((c : Thread nD τ).loc main_arg0) (ix2 r j)
  yf j := m ((c : Thread nD τ).loc main_arg1) (ix2 r j)
  yb j := m ((c : Thread nD τ).loc main_arg2) (ix2 r j)
  bv j := m ((c : Thread nD τ).loc main_arg3) (ix2 r j)
  sg j := m ((c : Thread nD τ).loc main_arg4) (ix2 r j)
  sa j := m ((c : Thread nD τ).loc main_arg5) (ix2 r j)
  mb j := m ((c : Thread nD τ).loc main_arg6) (ix2 r j)
  md j := m ((c : Thread nD τ).loc main_arg7) (ix2 (modRow r) j)
  g i j := m ((c : Thread nD τ).loc main_arg8) (ix2 i j)
  gg j := m ((c : Thread nD τ).loc main_arg9) (ix2 0 j)
  gb j := m ((c : Thread nD τ).loc main_arg10) (ix2 0 j)
  wa i j := m ((c : Thread nD τ).loc main_arg11) (ix2 i j)
  wo i j := m ((c : Thread nD τ).loc main_arg12) (ix2 i j)
  w13 i j := m ((c : Thread nD τ).loc main_arg13) (ix2 i j)
  w2 i j := m ((c : Thread nD τ).loc main_arg14) (ix2 i j)

/-- The array row that row `r` of point `t`'s block is. -/
def at512 (t : Fin cfg0.N) (r : Fin 512) : Fin 8192 :=
  ⟨512 * t.val + r.val, by have : t.val < 16 := lt_of_lt_of_eq t.isLt (show cfg0.N = 16 from N_0); omega⟩

/-- The row of the modulation that point `t` reads. -/
def rowT (t : Fin cfg0.N) : Fin 8 := if t.val < 8 then 0 else if t.val < 12 then 1 else 2

theorem modRow_at (t : Fin cfg0.N) (r : Fin 512) : modRow (at512 t r) = rowT t := by
  unfold modRow rowT at512
  dsimp only
  split_ifs <;> first | rfl | (exfalso; omega)

theorem off1 : ∀ t : Fin grid0.N, k0_off1 (grid0.coords t) 0 = (rowT t).val ∧ k0_off1 (grid0.coords t) 1 = 2048 := by decide +kernel
theorem off2 : ∀ t : Fin grid0.N, k0_off2 (grid0.coords t) 0 = (rowT t).val ∧ k0_off2 (grid0.coords t) 1 = 3072 := by decide +kernel
theorem off3 : ∀ t : Fin grid0.N, k0_off3 (grid0.coords t) 0 = (rowT t).val ∧ k0_off3 (grid0.coords t) 1 = 4096 := by decide +kernel
theorem off4 : ∀ t : Fin grid0.N, k0_off4 (grid0.coords t) 0 = (rowT t).val ∧ k0_off4 (grid0.coords t) 1 = 5120 := by decide +kernel

/-- One row of 1024 entries loaded from the modulation at the offsets `o`. -/
theorem ld_row (X : Vec Ideal S8x6144 .f32) (o : Fin 2 → Nat) (h : ∀ a, o a + S1x1024.size a ≤ S8x6144.size a) (a : Fin 8) (k : Nat)
    (h0 : o 0 = a.val) (h1 : o 1 = k) (j : Fin 1024) (hk : k + j.val < 6144) :
    View.ld X (Rect.unit (s := S8x6144) o S1x1024.size h) (ix2 0 j) = X (ix2 a ⟨k + j.val, hk⟩) := by
  show X _ = X _
  congr 1
  funext b
  apply Fin.ext
  match b with
  | ⟨0, _⟩ => show o 0 + 1 * 0 = a.val; omega
  | ⟨1, _⟩ => show o 1 + 1 * j.val = k + j.val; omega

/-- A channel's number shifted right by six bits is the number of its head. -/
theorem shift6 : ∀ a : Fin 512, IntOp.shrsi ArithUnit.host (BitVec.ofNat 32 a.val) 6#32 = BitVec.ofNat 32 (⟨a.val / 64, by omega⟩ : Fin 8).val := by
  decide +kernel

/-- Two head numbers' words are equal when the numbers are. -/
theorem eq8 : ∀ x y : Fin 8, IntOp.cmpi CmpIPredicate.eq (BitVec.ofNat 32 x.val) (BitVec.ofNat 32 y.val) = if x = y then 1#1 else 0#1 := by
  decide +kernel

/-- The host's indicator matrix. -/
theorem ones (c : Dev nD) (a b : Fin 512) : V m c main_v8 (ix2 a b) = if a.val / 64 = b.val / 64 then (1 : EReal) else 0 := by
  show StableHlo.after (List.flatten [hostOps0, hostOps0_1, hostOps0_2]) _ (Proc.devRef .tc main_v8) _ = _
  simp only [List.flatten_cons, List.flatten_nil, List.append_nil, List.cons_append, List.nil_append]
  after_results
  show (select (cmpi CmpIPredicate.eq
      (Host.shrsi (iotaInDim S512x512 32 0) (broadcastInDim S512x512 ![] bcast_S_S512x512 (constantI S_ 32 6#32)))
      (Host.shrsi (iotaInDim S512x512 32 1) (broadcastInDim S512x512 ![] bcast_S_S512x512 (constantI S_ 32 6#32))))
    (broadcastInDim S512x512 ![] bcast_S_S512x512 (constant S_ FTy.f32 1065353216#32))
    (broadcastInDim S512x512 ![] bcast_S_S512x512 (constant S_ FTy.f32 0#32)) : FVec Ideal S512x512 .f32) (ix2 a b) = _
  pointwise
  rw [shift6 a, shift6 b, eq8 ⟨a.val / 64, by omega⟩ ⟨b.val / 64, by omega⟩]
  by_cases h : a.val / 64 = b.val / 64
  · rw [if_pos h, if_pos (Fin.ext h)]; rfl
  · rw [if_neg h, if_neg (fun e => h (congrArg Fin.val e))]; rfl

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel

/-- Argument 0's block at point `t`. -/
theorem in0 (c : Dev nD) (t : Fin cfg0.N) (r : Fin 512) (j : Fin 1024) : iblk m c 0 t (ix2 r j) = (tok m c (at512 t r)).x j := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * j.val = j.val; rw [(index0 t).2]; omega

/-- Argument 1's block at point `t`. -/
theorem in1 (c : Dev nD) (t : Fin cfg0.N) (r : Fin 512) (j : Fin 512) : iblk m c 1 t (ix2 r j) = (tok m c (at512 t r)).yf j := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 512 + 1 * r.val = 512 * t.val + r.val; rw [(index1 t).1]; omega
  | ⟨1, _⟩ => show win0_1.index t 1 * 512 + 1 * j.val = j.val; rw [(index1 t).2]; omega

/-- Argument 2's block at point `t`. -/
theorem in2 (c : Dev nD) (t : Fin cfg0.N) (r : Fin 512) (j : Fin 512) : iblk m c 2 t (ix2 r j) = (tok m c (at512 t r)).yb j := by
  unfold iblk
  rw [View.read_apply]
  show V m c main_arg2 _ = m ((c : Thread nD τ).loc main_arg2) _
  rw [V_main_arg2]
  congr 1
  funext a
  apply Fin.ext
  match a with
  | ⟨0, _⟩ => show win0_2.index t 0 * 512 + 1 * r.val = 512 * t.val + r.val; rw [(index2 t).1]; omega
  | ⟨1, _⟩ => show win0_2.index t 1 * 512 + 1 * j.val = j.val; rw [(index2 t).2]; omega

/-- Argument 3's block at point `t`. -/
theorem in3 (c : Dev nD) (t : Fin cfg0.N) (r : Fin 512) (j : Fin 512) : iblk m c 3 t (ix2 r j) = (tok m c (at512 t r)).bv j := by
  unfold iblk
  rw [View.read_apply]
  show V m c main_arg3 _ = m ((c : Thread nD τ).loc main_arg3) _
  rw [V_main_arg3]
  congr 1
  funext a
  apply Fin.ext
  match a with
  | ⟨0, _⟩ => show win0_3.index t 0 * 512 + 1 * r.val = 512 * t.val + r.val; rw [(index3 t).1]; omega
  | ⟨1, _⟩ => show win0_3.index t 1 * 512 + 1 * j.val = j.val; rw [(index3 t).2]; omega

/-- Argument 4's block at point `t`. -/
theorem in4 (c : Dev nD) (t : Fin cfg0.N) (r : Fin 512) (j : Fin 512) : iblk m c 4 t (ix2 r j) = (tok m c (at512 t r)).sg j := by
  unfold iblk
  rw [View.read_apply]
  show V m c main_arg4 _ = m ((c : Thread nD τ).loc main_arg4) _
  rw [V_main_arg4]
  congr 1
  funext a
  apply Fin.ext
  match a with
  | ⟨0, _⟩ => show win0_4.index t 0 * 512 + 1 * r.val = 512 * t.val + r.val; rw [(index4 t).1]; omega
  | ⟨1, _⟩ => show win0_4.index t 1 * 512 + 1 * j.val = j.val; rw [(index4 t).2]; omega

/-- Argument 5's block at point `t`. -/
theorem in5 (c : Dev nD) (t : Fin cfg0.N) (r : Fin 512) (j : Fin 1024) : iblk m c 5 t (ix2 r j) = (tok m c (at512 t r)).sa j := by
  unfold iblk
  rw [View.read_apply]
  show V m c main_arg5 _ = m ((c : Thread nD τ).loc main_arg5) _
  rw [V_main_arg5]
  congr 1
  funext a
  apply Fin.ext
  match a with
  | ⟨0, _⟩ => show win0_5.index t 0 * 512 + 1 * r.val = 512 * t.val + r.val; rw [(index5 t).1]; omega
  | ⟨1, _⟩ => show win0_5.index t 1 * 1024 + 1 * j.val = j.val; rw [(index5 t).2]; omega

/-- Argument 6's block at point `t`. -/
theorem in6 (c : Dev nD) (t : Fin cfg0.N) (r : Fin 512) (j : Fin 1024) : iblk m c 6 t (ix2 r j) = (tok m c (at512 t r)).mb j := by
  unfold iblk
  rw [View.read_apply]
  show V m c main_arg6 _ = m ((c : Thread nD τ).loc main_arg6) _
  rw [V_main_arg6]
  congr 1
  funext a
  apply Fin.ext
  match a with
  | ⟨0, _⟩ => show win0_6.index t 0 * 512 + 1 * r.val = 512 * t.val + r.val; rw [(index6 t).1]; omega
  | ⟨1, _⟩ => show win0_6.index t 1 * 1024 + 1 * j.val = j.val; rw [(index6 t).2]; omega

/-- Window 7 holds the whole of argument 7 at every point. -/
theorem in7 (c : Dev nD) (t : Fin cfg0.N) (r : Fin 8) (j : Fin 6144) : iblk m c 7 t (ix2 r j) = m ((c : Thread nD τ).loc main_arg7) (ix2 r j) := by
  unfold iblk
  rw [View.read_apply]
  show V m c main_arg7 _ = m ((c : Thread nD τ).loc main_arg7) _
  rw [V_main_arg7]
  congr 1
  funext a
  apply Fin.ext
  match a with
  | ⟨0, _⟩ => show 0 * 8 + 1 * r.val = r.val; omega
  | ⟨1, _⟩ => show 0 * 6144 + 1 * j.val = j.val; omega

/-- Window 8 holds the whole of argument 8 at every point. -/
theorem in8 (c : Dev nD) (t : Fin cfg0.N) (r : Fin 6) (j : Fin 1024) : iblk m c 8 t (ix2 r j) = m ((c : Thread nD τ).loc main_arg8) (ix2 r j) := by
  unfold iblk
  rw [View.read_apply]
  show V m c main_arg8 _ = m ((c : Thread nD τ).loc main_arg8) _
  rw [V_main_arg8]
  congr 1
  funext a
  apply Fin.ext
  match a with
  | ⟨0, _⟩ => show 0 * 6 + 1 * r.val = r.val; omega
  | ⟨1, _⟩ => show 0 * 1024 + 1 * j.val = j.val; omega

/-- Window 9 holds the whole of argument 9 at every point. -/
theorem in9 (c : Dev nD) (t : Fin cfg0.N) (r : Fin 1) (j : Fin 512) : iblk m c 9 t (ix2 r j) = m ((c : Thread nD τ).loc main_arg9) (ix2 r j) := by
  unfold iblk
  rw [View.read_apply]
  show V m c main_arg9 _ = m ((c : Thread nD τ).loc main_arg9) _
  rw [V_main_arg9]
  congr 1
  funext a
  apply Fin.ext
  match a with
  | ⟨0, _⟩ => show 0 * 1 + 1 * r.val = r.val; omega
  | ⟨1, _⟩ => show 0 * 512 + 1 * j.val = j.val; omega

/-- Window 10 holds the whole of argument 10 at every point. -/
theorem in10 (c : Dev nD) (t : Fin cfg0.N) (r : Fin 1) (j : Fin 512) : iblk m c 10 t (ix2 r j) = m ((c : Thread nD τ).loc main_arg10) (ix2 r j) := by
  unfold iblk
  rw [View.read_apply]
  show V m c main_arg10 _ = m ((c : Thread nD τ).loc main_arg10) _
  rw [V_main_arg10]
  congr 1
  funext a
  apply Fin.ext
  match a with
  | ⟨0, _⟩ => show 0 * 1 + 1 * r.val = r.val; omega
  | ⟨1, _⟩ => show 0 * 512 + 1 * j.val = j.val; omega

/-- Window 11 holds the whole of argument 11 at every point. -/
theorem in11 (c : Dev nD) (t : Fin cfg0.N) (r : Fin 512) (j : Fin 1024) : iblk m c 11 t (ix2 r j) = m ((c : Thread nD τ).loc main_arg11) (ix2 r j) := by
  unfold iblk
  rw [View.read_apply]
  show V m c main_arg11 _ = m ((c : Thread nD τ).loc main_arg11) _
  rw [V_main_arg11]
  congr 1
  funext a
  apply Fin.ext
  match a with
  | ⟨0, _⟩ => show 0 * 512 + 1 * r.val = r.val; omega
  | ⟨1, _⟩ => show 0 * 1024 + 1 * j.val = j.val; omega

/-- Window 12 holds the whole of argument 12 at every point. -/
theorem in12 (c : Dev nD) (t : Fin cfg0.N) (r : Fin 1024) (j : Fin 1024) : iblk m c 12 t (ix2 r j) = m ((c : Thread nD τ).loc main_arg12) (ix2 r j) := by
  unfold iblk
  rw [View.read_apply]
  show V m c main_arg12 _ = m ((c : Thread nD τ).loc main_arg12) _
  rw [V_main_arg12]
  congr 1
  funext a
  apply Fin.ext
  match a with
  | ⟨0, _⟩ => show 0 * 1024 + 1 * r.val = r.val; omega
  | ⟨1, _⟩ => show 0 * 1024 + 1 * j.val = j.val; omega

/-- Window 14 holds the whole of argument 13 at every point. -/
theorem in14 (c : Dev nD) (t : Fin cfg0.N) (r : Fin 1024) (j : Fin 5632) : iblk m c 14 t (ix2 r j) = m ((c : Thread nD τ).loc main_arg13) (ix2 r j) := by
  unfold iblk
  rw [View.read_apply]
  show V m c main_arg13 _ = m ((c : Thread nD τ).loc main_arg13) _
  rw [V_main_arg13]
  congr 1
  funext a
  apply Fin.ext
  match a with
  | ⟨0, _⟩ => show 0 * 1024 + 1 * r.val = r.val; omega
  | ⟨1, _⟩ => show 0 * 5632 + 1 * j.val = j.val; omega

/-- Window 15 holds the whole of argument 14 at every point. -/
theorem in15 (c : Dev nD) (t : Fin cfg0.N) (r : Fin 2816) (j : Fin 1024) : iblk m c 15 t (ix2 r j) = m ((c : Thread nD τ).loc main_arg14) (ix2 r j) := by
  unfold iblk
  rw [View.read_apply]
  show V m c main_arg14 _ = m ((c : Thread nD τ).loc main_arg14) _
  rw [V_main_arg14]
  congr 1
  funext a
  apply Fin.ext
  match a with
  | ⟨0, _⟩ => show 0 * 2816 + 1 * r.val = r.val; omega
  | ⟨1, _⟩ => show 0 * 1024 + 1 * j.val = j.val; omega

/-- Window 13 holds the indicator of two channels' being of one head. -/
theorem in13 (c : Dev nD) (t : Fin cfg0.N) (a b : Fin 512) :
    iblk m c 13 t (ix2 a b) = if a.val / 64 = b.val / 64 then (1 : EReal) else 0 := by
  have e : iblk m c 13 t (ix2 a b) = V m c main_v8 (ix2 a b) := by
    unfold iblk
    rw [View.read_apply]
    show V m c main_v8 _ = V m c main_v8 _
    congr 1
    funext a
    apply Fin.ext
    match a with
    | ⟨0, _⟩ => show 0 * 512 + 1 * _ = _; omega
    | ⟨1, _⟩ => show 0 * 512 + 1 * _ = _; omega
  rw [e]
  exact ones m c a b

end Cert.BackIdeal.Row
-- ==== Proof.BackPay.lean ====
/- The kernel's payloads, read at one row, are the row-wise value of that row's token. -/
module

public import proofs.«01_k».proof.Proof.Gen.BackIdeal.Skeleton
public import proofs.«01_k».proof.Proof.BackSpec

@[expose] public section

set_option maxRecDepth 16384

noncomputable section

namespace Cert.BackIdeal.Row

open Cert.BackIdeal Cert.BackIdeal.Gen Idealize.ShloMosaic Idealize.ShloMosaic.TcCoe Idealize.SL.Sem
open Cert.BackSpec

/-- The pattern of one sixty-fourth means `1 / 64`: to multiply by it is to divide by 64. -/
theorem mul_inv64 (x : EReal) : x * Ideal.ofBits .f32 1015021568#32 = Ideal.div x c64 := by
  have h64 : c64 = ((64 : ℝ) : EReal) := by
    simp [c64, Ideal.ofBits, Ideal.ieee]; rw [← EReal.coe_mul]; norm_num
  have hi : Ideal.ofBits .f32 1015021568#32 = ((1 / 64 : ℝ) : EReal) := by
    simp [Ideal.ofBits, Ideal.ieee]; rw [← EReal.coe_mul]; norm_num
  rw [h64, hi]
  unfold Ideal.div
  rw [if_neg (by norm_cast), ← EReal.coe_inv, one_div]

/-- A sum over 512 channels against the indicator of a channel's own head is the sum over that head. -/
theorem sum_head (f : Fin 512 → EReal) (k : Fin 512) :
    ∑ x : Fin 512, f x * (if x.val / 64 = k.val / 64 then (1 : EReal) else 0) = ∑ x : Fin 64, f (inHead k x) := by
  simp only [mul_ite, mul_one, mul_zero]
  rw [← Finset.sum_filter]
  symm
  refine Finset.sum_nbij (fun x => inHead k x) ?_ ?_ ?_ (fun _ _ => rfl)
  · intro x _
    simp only [Finset.mem_filter, Finset.mem_univ, true_and, inHead]
    omega
  · intro a _ b _ h
    have := congrArg Fin.val h
    simp only [inHead] at this
    exact Fin.ext (by omega)
  · intro y hy
    simp only [Finset.coe_filter, Finset.mem_univ, true_and, Set.mem_setOf_eq] at hy
    refine ⟨⟨y.val % 64, by omega⟩, by simp, Fin.ext ?_⟩
    simp only [inHead]
    omega

/-- Group 0: group norm and bonus. -/
theorem gn0 (p : Tok) (r : Fin 256) (v24 : Vec Ideal S512x512 .bf16) (v26 v27 : Vec Ideal S256x512 .f32)
    (v56 v59 : Vec Ideal S1x512 .f32) (v72 : Vec Ideal S256x512 .bf16)
    (h24 : ∀ a b : Fin 512, v24 (ix2 a b) = if a.val / 64 = b.val / 64 then (1 : EReal) else 0)
    (h26 : ∀ k : Fin 512, v26 (ix2 r k) = p.yf k) (h27 : ∀ k : Fin 512, v27 (ix2 r k) = p.yb k)
    (h56 : ∀ k : Fin 512, v56 (ix2 0 k) = p.gg k) (h59 : ∀ k : Fin 512, v59 (ix2 0 k) = p.gb k)
    (h72 : ∀ k : Fin 512, v72 (ix2 r k) = p.bv k) (k : Fin 512) :
    k0_pay6 (k0_pay1 v24) (k0_pay2 v26 v27) (k0_pay4 v24 v26 v27) (Scalar.ofBits .f32 0x3C800000#32) v56 v59 v72 (ix2 r k)
      = gn p.y p.gg p.gb k + p.bv k := by
  pointwise [k0_pay6, k0_pay4, k0_pay2, k0_pay1]
  simp only [h24, h26, h27, h56, h59, h72, sum_head, mul_inv64]
  rfl

/-- Group 1: group norm. -/
theorem gn1 (p : Tok) (r : Fin 256) (v24 : Vec Ideal S512x512 .bf16) (v29 v30 : Vec Ideal S256x512 .f32)
    (v66 v69 : Vec Ideal S1x512 .f32)
    (h24 : ∀ a b : Fin 512, v24 (ix2 a b) = if a.val / 64 = b.val / 64 then (1 : EReal) else 0)
    (h29 : ∀ k : Fin 512, v29 (ix2 r k) = p.yf k) (h30 : ∀ k : Fin 512, v30 (ix2 r k) = p.yb k)
    (h66 : ∀ k : Fin 512, v66 (ix2 0 k) = p.gg k) (h69 : ∀ k : Fin 512, v69 (ix2 0 k) = p.gb k) (k : Fin 512) :
    k0_pay5 (k0_pay1 v24) (k0_pay3 v29 v30) v66 v69 (ix2 r k) = gn p.y p.gg p.gb k := by
  pointwise [k0_pay5, k0_pay3, k0_pay1]
  simp only [h24, h29, h30, h66, h69, sum_head, mul_inv64]
  rfl

/-- Group 0: branch projection, merge, output projection. -/
theorem mix0 (p : Tok) (r : Fin 256) (v74 : FVec Ideal S256x512 .f32) (v75 : Vec Ideal S256x512 .bf16) (v78 : Vec Ideal S512x1024 .bf16)
    (v90 v93 : Vec Ideal S256x1024 .bf16) (v96 : Vec Ideal S1024x1024 .bf16)
    (h74 : ∀ k : Fin 512, v74 (ix2 r k) = gn p.y p.gg p.gb k + p.bv k)
    (h75 : ∀ k : Fin 512, v75 (ix2 r k) = p.sg k) (h78 : ∀ (k : Fin 512) (j : Fin 1024), v78 (ix2 k j) = p.wa k j)
    (h90 : ∀ j : Fin 1024, v90 (ix2 r j) = p.sa j) (h93 : ∀ j : Fin 1024, v93 (ix2 r j) = p.mb j)
    (h96 : ∀ k j : Fin 1024, v96 (ix2 k j) = p.wo k j) (j : Fin 1024) :
    k0_pay7 v74 v75 v78 v90 v93 v96 (ix2 r j) = p.mix j := by
  pointwise [k0_pay7]
  simp only [h74, h75, h78, h90, h93, h96]
  rfl

/-- Group 1: bonus, branch projection, merge, output projection. -/
theorem mix1 (p : Tok) (r : Fin 256) (v71 : FVec Ideal S256x512 .f32) (v81 v84 : Vec Ideal S256x512 .bf16) (v87 : Vec Ideal S512x1024 .bf16)
    (v99 v102 : Vec Ideal S256x1024 .bf16) (v105 : Vec Ideal S1024x1024 .bf16)
    (h71 : ∀ k : Fin 512, v71 (ix2 r k) = gn p.y p.gg p.gb k) (h81 : ∀ k : Fin 512, v81 (ix2 r k) = p.bv k)
    (h84 : ∀ k : Fin 512, v84 (ix2 r k) = p.sg k) (h87 : ∀ (k : Fin 512) (j : Fin 1024), v87 (ix2 k j) = p.wa k j)
    (h99 : ∀ j : Fin 1024, v99 (ix2 r j) = p.sa j) (h102 : ∀ j : Fin 1024, v102 (ix2 r j) = p.mb j)
    (h105 : ∀ k j : Fin 1024, v105 (ix2 k j) = p.wo k j) (j : Fin 1024) :
    k0_pay8 v71 v81 v84 v87 v99 v102 v105 (ix2 r j) = p.mix j := by
  pointwise [k0_pay8]
  simp only [h71, h81, h84, h87, h99, h102, h105]
  rfl

/-- Group 0: the token after the mixing block. -/
theorem x20 (p : Tok) (r : Fin 256) (v23 : Vec Ideal S1x1024 .f32) (v98 v107 : FVec Ideal S256x1024 .f32) (v108 : Vec Ideal S256x1024 .f32)
    (v109 : Vec Ideal S1x1024 .f32) (v125 : Vec Ideal S256x1024 .f32) (v126 : Vec Ideal S1x1024 .f32)
    (h23 : ∀ j : Fin 1024, v23 (ix2 0 j) = p.md ⟨2048 + j.val, by omega⟩) (h98 : ∀ j : Fin 1024, v98 (ix2 r j) = p.mix j)
    (h108 : ∀ j : Fin 1024, v108 (ix2 r j) = p.x j) (h109 : ∀ j : Fin 1024, v109 (ix2 0 j) = p.g 3 j) (j : Fin 1024) :
    k0_pay10 (k0_pay9 v23 v98 v107 v108 v109 v125 v126) (ix2 r j) = p.x2 j := by
  pointwise [k0_pay10, k0_pay9]
  simp only [h23, h98, h108, h109]
  rfl

/-- Group 1: the token after the mixing block. -/
theorem x21 (p : Tok) (r : Fin 256) (v23 : Vec Ideal S1x1024 .f32) (v98 v107 : FVec Ideal S256x1024 .f32) (v108 : Vec Ideal S256x1024 .f32)
    (v109 : Vec Ideal S1x1024 .f32) (v125 : Vec Ideal S256x1024 .f32) (v126 : Vec Ideal S1x1024 .f32)
    (h23 : ∀ j : Fin 1024, v23 (ix2 0 j) = p.md ⟨2048 + j.val, by omega⟩) (h107 : ∀ j : Fin 1024, v107 (ix2 r j) = p.mix j)
    (h125 : ∀ j : Fin 1024, v125 (ix2 r j) = p.x j) (h126 : ∀ j : Fin 1024, v126 (ix2 0 j) = p.g 3 j) (j : Fin 1024) :
    k0_pay11 (k0_pay9 v23 v98 v107 v108 v109 v125 v126) (ix2 r j) = p.x2 j := by
  pointwise [k0_pay11, k0_pay9]
  simp only [h23, h107, h125, h126]
  rfl

/-- Group 0: the second feed-forward block's modulated input. -/
theorem h0 (p : Tok) (r : Fin 256) (v142 : FVec Ideal S512x1024 .f32) (v165 v167 v172 : Vec Ideal S1x1024 .f32)
    (hx : ∀ j : Fin 1024, k0_pay10 v142 (ix2 r j) = p.x2 j)
    (h165 : ∀ j : Fin 1024, v165 (ix2 0 j) = p.md ⟨3072 + j.val, by omega⟩)
    (h167 : ∀ j : Fin 1024, v167 (ix2 0 j) = p.md ⟨4096 + j.val, by omega⟩)
    (h172 : ∀ j : Fin 1024, v172 (ix2 0 j) = p.g 4 j) (j : Fin 1024) :
    k0_pay12 v142 v165 v167 v172 (ix2 r j) = p.h j := by
  pointwise [k0_pay12]
  simp only [hx, h165, h167, h172]
  rfl

/-- Group 0: the second feed-forward block. -/
theorem ff0 (p : Tok) (r : Fin 256) (v191 : FVec Ideal S256x1024 .bf16) (v212 : Vec Ideal S1024x5632 .bf16) (v228 : Vec Ideal S2816x1024 .bf16)
    (h191 : ∀ j : Fin 1024, v191 (ix2 r j) = p.h j) (h212 : ∀ (k : Fin 1024) (j : Fin 5632), v212 (ix2 k j) = p.w13 k j)
    (h228 : ∀ (k : Fin 2816) (j : Fin 1024), v228 (ix2 k j) = p.w2 k j) (j : Fin 1024) :
    k0_pay14 v191 v212 v228 (ix2 r j) = p.ff j := by
  pointwise [k0_pay14]
  simp only [h191, h212, h228]
  rfl

/-- Group 1: the second feed-forward block. -/
theorem ff1 (p : Tok) (r : Fin 256) (v142 : FVec Ideal S512x1024 .f32) (v165 v167 v192 : Vec Ideal S1x1024 .f32)
    (v214 : Vec Ideal S1024x5632 .bf16) (v230 : Vec Ideal S2816x1024 .bf16)
    (hx : ∀ j : Fin 1024, k0_pay11 v142 (ix2 r j) = p.x2 j)
    (h165 : ∀ j : Fin 1024, v165 (ix2 0 j) = p.md ⟨3072 + j.val, by omega⟩)
    (h167 : ∀ j : Fin 1024, v167 (ix2 0 j) = p.md ⟨4096 + j.val, by omega⟩)
    (h192 : ∀ j : Fin 1024, v192 (ix2 0 j) = p.g 4 j)
    (h214 : ∀ (k : Fin 1024) (j : Fin 5632), v214 (ix2 k j) = p.w13 k j)
    (h230 : ∀ (k : Fin 2816) (j : Fin 1024), v230 (ix2 k j) = p.w2 k j) (j : Fin 1024) :
    k0_pay15 v165 v167 (k0_pay11 v142) v192 (k0_pay13 v142) v214 v230 (ix2 r j) = p.ff j := by
  pointwise [k0_pay15, k0_pay13]
  simp only [hx, h165, h167, h192, h214, h230]
  rfl

/-- The stored block at a row of group 0. -/
theorem out0 (p : Tok) (r : Fin 256) (v169 : Vec Ideal S1x1024 .f32) (v170 v171 v229 v231 : FVec Ideal S256x1024 .f32) (v234 v252 : Vec Ideal S1x1024 .f32)
    (h169 : ∀ j : Fin 1024, v169 (ix2 0 j) = p.md ⟨5120 + j.val, by omega⟩) (h170 : ∀ j : Fin 1024, v170 (ix2 r j) = p.x2 j)
    (h229 : ∀ j : Fin 1024, v229 (ix2 r j) = p.ff j) (h234 : ∀ j : Fin 1024, v234 (ix2 0 j) = p.g 5 j) (j : Fin 1024) :
    k0_pay17 v169 v170 v171 v229 v231 (k0_pay16 v169) v234 v252 (ix2 ⟨r.val, by omega⟩ j) = p.out j := by
  pointwise [k0_pay17, k0_pay16]
  simp only [h169, h170, h229, h234]
  rfl

/-- The stored block at a row of group 1. -/
theorem out1 (p : Tok) (r : Fin 256) (v169 : Vec Ideal S1x1024 .f32) (v170 v171 v229 v231 : FVec Ideal S256x1024 .f32) (v234 v252 : Vec Ideal S1x1024 .f32)
    (h169 : ∀ j : Fin 1024, v169 (ix2 0 j) = p.md ⟨5120 + j.val, by omega⟩) (h171 : ∀ j : Fin 1024, v171 (ix2 r j) = p.x2 j)
    (h231 : ∀ j : Fin 1024, v231 (ix2 r j) = p.ff j) (h252 : ∀ j : Fin 1024, v252 (ix2 0 j) = p.g 5 j) (j : Fin 1024) :
    k0_pay17 v169 v170 v171 v229 v231 (k0_pay16 v169) v234 v252 (ix2 ⟨256 + r.val, by omega⟩ j) = p.out j := by
  pointwise [k0_pay17, k0_pay16]
  simp only [h169, h171, h231, h252]
  rfl

end Cert.BackIdeal.Row
-- ==== Proof.BackHand.RunA.lean ====
/- The frame and the run of the program BackIdeal, window by window: part RunA. -/
module

public import proofs.«01_k».proof.Proof.BackHand.Runs

@[expose] public section

-- membership in a rectangle of production extents (`View.cover_of_tiled`): the elaborator's structural look
-- recurses once per coordinate of the long axes
set_option maxRecDepth 16384

noncomputable section

namespace Cert.BackIdeal.Hand

open Cert.BackIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 1, … 7: 8 of 16), WITH the
    proof that on whole staging memrefs — the inputs' at their contents, the outputs it leaves idle (17: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : cond0_0 i) (hc1 : ¬cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) :
    Σ' (L16 : List (View.Piece (Elt F) S512x1024 .f32)), { L17 : List (View.Piece (Elt F) S512x1024 .f32) //
      ∀ (xi17 : Vec F S512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare xi17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ owns (c : Thread nD τ) arg18 fullShare xi17) -∗ K ⟨⟩))
          ⊢ wp frame (wpE (defs₀ (F := F)) Variants.none c none) E (cc0_back_ffn2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], fun xi17 E K => ?run⟩
  case run =>
    simp only [cc0_back_ffn2_eq_skeleton]; unfold cc0_back_ffn2_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hf17
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    iexists _; isplitr; · ipureintro; exact harg18.read_unread _
    iexact H17

end Cert.BackIdeal.Hand

end
-- ==== Proof.BackHand.RunB.lean ====
/- The frame and the run of the program BackIdeal, window by window: part RunB. -/
module

public import proofs.«01_k».proof.Proof.BackHand.RunA

@[expose] public section

-- membership in a rectangle of production extents (`View.cover_of_tiled`): the elaborator's structural look
-- recurses once per coordinate of the long axes
set_option maxRecDepth 16384

noncomputable section

namespace Cert.BackIdeal.Hand

open Cert.BackIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 8, 9, … 15: 8 of 16), WITH the
    proof that on whole staging memrefs — the inputs' at their contents, the outputs it leaves idle (16: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : ¬cond0_0 i) (hc1 : cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) :
    Σ' (L16 : List (View.Piece (Elt F) S512x1024 .f32)), { L17 : List (View.Piece (Elt F) S512x1024 .f32) //
      ∀ (xi16 : Vec F S512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xi16 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xi16 ∗ (∃ f, arg18.view.loc (c : Thread nD τ) ↦[arg18.view.set]{fullShare} arg18.view.writes (Elt F) f L17)) -∗ K ⟨⟩))
          ⊢ wp frame (wpE (defs₀ (F := F)) Variants.none c none) E (cc0_back_ffn2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xi16 E K => ?run⟩
  case run =>
    simp only [cc0_back_ffn2_eq_skeleton]; unfold cc0_back_ffn2_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists _; iexact H17

end Cert.BackIdeal.Hand

end
-- ==== Proof.BackHand.Frame.lean ====
/- The frame and the run of the program BackIdeal, window by window: part Frame. -/
module

public import proofs.«01_k».proof.Proof.BackHand.RunB
public import Idealize.ShloMosaic.Lib.Claim

@[expose] public section

-- membership in a rectangle of production extents (`View.cover_of_tiled`): the elaborator's structural look
-- recurses once per coordinate of the long axes
set_option maxRecDepth 16384

noncomputable section

namespace Cert.BackIdeal.Hand

open Cert.BackIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 16 tile its block (1 store of `S512x1024`, checked by the kernel's evaluation: Lib/Ring.lean `Piece.tiledL`, linear in the pieces, through a loop's `@[irreducible]` trip theorem too), so they cover it. -/
theorem cover0_A_16 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : cond0_0 i) (hc1 : ¬cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).1 S512x1024.size (by sl_kernel_rfl) y

/-- What case A leaves in output 16's staging buffer: its pieces read back over junk. -/
def out0_A_16 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : cond0_0 i) (hc1 : ¬cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) : Vec F S512x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).1)

/-- Case A stores nothing into output 17 (the window is idle at its points and not written back there):
    no pieces — a placeholder (junk read back) that nothing consults, since at these points the window is neither
    written back nor read at the next point (Lib/Pipeline.lean "Idle points"). -/
def out0_A_17 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : cond0_0 i) (hc1 : ¬cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) : Vec F S512x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).2.1)

/-- Case B stores nothing into output 16 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_16 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : ¬cond0_0 i) (hc1 : cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) (xo16 : Vec F S512x1024 .f32) : Vec F S512x1024 .f32 := xo16

/-- Case B's pieces for output 17 tile its block (1 store of `S512x1024`, checked by the kernel's evaluation: Lib/Ring.lean `Piece.tiledL`, linear in the pieces, through a loop's `@[irreducible]` trip theorem too), so they cover it. -/
theorem cover0_B_17 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : ¬cond0_0 i) (hc1 : cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).2.1 S512x1024.size (by sl_kernel_rfl) y

/-- What case B leaves in output 17's staging buffer: its pieces read back over junk. -/
def out0_B_17 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : ¬cond0_0 i) (hc1 : cond0_1 i)
    (x0 : Vec F S512x1024 .f32) (x1 : Vec F S512x512 .f32) (x2 : Vec F S512x512 .f32) (x3 : Vec F S512x512 .bf16) (x4 : Vec F S512x512 .bf16) (x5 : Vec F S512x1024 .bf16) (x6 : Vec F S512x1024 .bf16) (x7 : Vec F S8x6144 .f32) (x8 : Vec F S6x1024 .f32) (x9 : Vec F S1x512 .f32) (x10 : Vec F S1x512 .f32) (x11 : Vec F S512x1024 .bf16) (x12 : Vec F S1024x1024 .bf16) (x13 : Vec F S512x512 .bf16) (x14 : Vec F S1024x5632 .bf16) (x15 : Vec F S2816x1024 .bf16) : Vec F S512x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x1024 .f32 × Vec F S512x1024 .f32
  | 0, hn => (out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩))
  | n + 1, hn =>
    if h0 : (n + 1) < 8 then
      if h1 : 8 ≤ (n + 1) then
        False.elim (by have hN : n + 1 < 16 := lt_of_lt_of_eq hn (show cfg0.N = 16 from N_0); omega)
      else
        (out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩))
    else
      if h1 : 8 ≤ (n + 1) then
        (out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).1, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩))
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val < 8) (h1 : ¬8 ≤ t.val) :
    outsAt0 m c t.val t.isLt = (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val < 8) (h1 : 8 ≤ t.val) :
    outsAt0 m c t.val t.isLt = (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).1, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  obtain ⟨n, hn⟩ := t
  cases n with
  | zero => exact (by exfalso; (try dsimp only at h0); exact by omega)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2
    | ⟨_ + 18, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- Output 16's contents CARRY through the points that leave it idle: at such a point, its buffer not fresh, the proof data's
    `after` is the point before's (the case there stores nothing into the window and its term says so; a case that stores
    into it is not idle there by `liveAt0_16_κ`) — the hypothesis of Lib/Pipeline/TableIdle.lean `Dat.before_out_traj`. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 16 := lt_of_lt_of_eq t.isLt (show cfg0.N = 16 from N_0)
  rw [after0_16, after0_16]
  by_cases h0 : t.val < 8
  · by_cases h1 : 8 ≤ t.val
    · exfalso; omega
    · rw [liveAt0_16_A t ((hcond0_0 t).mpr h0) (fun h => h1 ((hcond0_1 t).mp h))] at hi
      exact absurd hi Bool.false_ne_true
  · by_cases h1 : 8 ≤ t.val
    · rw [outsAt0_B m c t h0 h1]
      dsimp only
      unfold out0_B_16
      rfl
    · exfalso; omega

/-- At a point of case B, output 16's buffer, untouched, holds what the run says it holds after the point: the last
    block of case A, carried. -/
theorem carried16_B (c : Dev nD) (t : Fin cfg0.N) (h0 : ¬t.val < 8) (h1 : 8 ≤ t.val) (d) :
    (dats m 0 c).before 16 t d = (dats m 0 c).after 16 t := by
  have hn : t.val ≠ 0 := by omega
  have hB0 := fun h => h0 ((hcond0_0 t).mp h)
  have hB1 := (hcond0_1 t).mpr h1
  have hf : cfg0.fresh 16 t.val = false := (fresh0_16_eq t).trans (notFresh0_16_B t hB0 hB1)
  rw [Dat.before_out_traj (dats m 0 c) 16 rfl (fun _ _ => rfl) (fun t hn => hcarry0_16 m c t hn) t.val t rfl d, hf,
    if_neg Bool.false_ne_true]
  exact (hcarry0_16 m c t hn (idleAt0_16_B t hB0 hB1) hf).symm

/-- So the body, which leaves that buffer alone, meets its post there whether or not the block is written back. -/
theorem leaves16_B (c : Dev nD) (t : Fin cfg0.N) (h0 : ¬t.val < 8) (h1 : 8 ≤ t.val) (d) :
    (iprop(owns (c : Thread nD τ) (ms0_16 t) fullShare ((dats m 0 c).before 16 t d)) : sProp 𝕄) ⊢ (dats m 0 c).leavesExact 16 t := by
  cases hfl : (cfg0.win 16).flush t with
  | false =>
    rw [Dat.leavesExact_idle (dats m 0 c) 16 t (idleAt0_16_B t (fun h => h0 ((hcond0_0 t).mp h)) ((hcond0_1 t).mpr h1)) hfl]
    iintro H; iexists d; iexact H
  | true =>
    rw [show (dats m 0 c).leavesExact 16 t = owns (c : Thread nD τ) (ms0_16 t) fullShare ((dats m 0 c).after 16 t) from by
      unfold Dat.leavesExact; rw [idleAt0_16_B t (fun h => h0 ((hcond0_0 t).mp h)) ((hcond0_1 t).mpr h1), hfl]]
    rw [carried16_B m c t h0 h1 d]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val < 8
  · by_cases h1 : 8 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16_A t ((hcond0_0 t).mpr h0) (fun h => h1 ((hcond0_1 t).mp h))], after0_16]
      rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
      rw [outsAt0_A m c t h0 h1]
      unfold out0_A_16; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexact H17
      iintro ⟨H0, H1, H2, H3, H4, H5, H6, H7, H8, H9, H10, H11, H12, H13, H14, H15, ⟨%e16, H16⟩, H17⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
      iexists _; iexact H17
  · by_cases h1 : 8 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 17 t = owns (c : Thread nD τ) (ms0_17 t) fullShare ((dats m 0 c).after 17 t) from by
      unfold Dat.leavesExact; rw [liveAt0_17_B t (fun h => h0 ((hcond0_0 t).mp h)) ((hcond0_1 t).mpr h1)], after0_17]
      rw [outsAt0_B m c t h0 h1]
      unfold out0_B_17; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      iintro ⟨H0, H1, H2, H3, H4, H5, H6, H7, H8, H9, H10, H11, H12, H13, H14, H15, H16, ⟨%e17, H17⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iapply (leaves16_B m c t h0 h1 d16); iexact H16
      unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_BackIdeal`'s statement (Defs.lean) at any `F` — Proof.lean cites it at `Bits`:
    `theorem Cert.Proof.claim : Cert.Claim := ⟨Cert.BackIdeal.Gen.facts, fun m ρ _ => Cert.BackIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.BackIdeal.Hand

end
-- ==== Proof.BackOut.lean ====
/- What the kernel's body stores at a grid point, read at one row, is the row-wise value of that row's token. -/
module

public import proofs.«01_k».proof.Proof.BackPay
public import proofs.«01_k».proof.Proof.BackHand.Frame

@[expose] public section

set_option maxRecDepth 16384

noncomputable section

namespace Cert.BackIdeal.Row

open Cert.BackIdeal Cert.BackIdeal.Gen Cert.BackIdeal.Hand Idealize.ShloMosaic Idealize.ShloMosaic.TcCoe Idealize.SL.Sem
open Cert.BackSpec

/-- The mixer's output of the first 256 rows of a block. -/
def mixLo (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) : FVec Ideal S256x1024 .f32 :=
  k0_pay7 (k0_pay6 (k0_pay1 (View.ld x13 (Rect.unit (s := S512x512) ![0, 0] S512x512.size inb_S512x512_S512x512_0_0))) (k0_pay2 (View.ld x1 (Rect.unit (s := S512x512) ![0, 0] S256x512.size inb_S512x512_S256x512_0_0)) (View.ld x2 (Rect.unit (s := S512x512) ![0, 0] S256x512.size inb_S512x512_S256x512_0_0))) (k0_pay4 (View.ld x13 (Rect.unit (s := S512x512) ![0, 0] S512x512.size inb_S512x512_S512x512_0_0)) (View.ld x1 (Rect.unit (s := S512x512) ![0, 0] S256x512.size inb_S512x512_S256x512_0_0)) (View.ld x2 (Rect.unit (s := S512x512) ![0, 0] S256x512.size inb_S512x512_S256x512_0_0))) (Scalar.ofBits .f32 0x3C800000#32) (View.ld x9 (Rect.unit (s := S1x512) ![0, 0] S1x512.size inb_S1x512_S1x512_0_0)) (View.ld x10 (Rect.unit (s := S1x512) ![0, 0] S1x512.size inb_S1x512_S1x512_0_0)) (View.ld x3 (Rect.unit (s := S512x512) ![0, 0] S256x512.size inb_S512x512_S256x512_0_0))) (View.ld x4 (Rect.unit (s := S512x512) ![0, 0] S256x512.size inb_S512x512_S256x512_0_0)) (View.ld x11 (Rect.unit (s := S512x1024) ![0, 0] S512x1024.size inb_S512x1024_S512x1024_0_0)) (View.ld x5 (Rect.unit (s := S512x1024) ![0, 0] S256x1024.size inb_S512x1024_S256x1024_0_0)) (View.ld x6 (Rect.unit (s := S512x1024) ![0, 0] S256x1024.size inb_S512x1024_S256x1024_0_0)) (View.ld x12 (Rect.unit (s := S1024x1024) ![0, 0] S1024x1024.size inb_S1024x1024_S1024x1024_0_0))

/-- The mixer's output of the last 256 rows of a block. -/
def mixHi (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) : FVec Ideal S256x1024 .f32 :=
  k0_pay8 (k0_pay5 (k0_pay1 (View.ld x13 (Rect.unit (s := S512x512) ![0, 0] S512x512.size inb_S512x512_S512x512_0_0))) (k0_pay3 (View.ld x1 (Rect.unit (s := S512x512) ![256, 0] S256x512.size inb_S512x512_S256x512_256_0)) (View.ld x2 (Rect.unit (s := S512x512) ![256, 0] S256x512.size inb_S512x512_S256x512_256_0))) (View.ld x9 (Rect.unit (s := S1x512) ![0, 0] S1x512.size inb_S1x512_S1x512_0_0)) (View.ld x10 (Rect.unit (s := S1x512) ![0, 0] S1x512.size inb_S1x512_S1x512_0_0))) (View.ld x3 (Rect.unit (s := S512x512) ![256, 0] S256x512.size inb_S512x512_S256x512_256_0)) (View.ld x4 (Rect.unit (s := S512x512) ![256, 0] S256x512.size inb_S512x512_S256x512_256_0)) (View.ld x11 (Rect.unit (s := S512x1024) ![0, 0] S512x1024.size inb_S512x1024_S512x1024_0_0)) (View.ld x5 (Rect.unit (s := S512x1024) ![256, 0] S256x1024.size inb_S512x1024_S256x1024_256_0)) (View.ld x6 (Rect.unit (s := S512x1024) ![256, 0] S256x1024.size inb_S512x1024_S256x1024_256_0)) (View.ld x12 (Rect.unit (s := S1024x1024) ![0, 0] S1024x1024.size inb_S1024x1024_S1024x1024_0_0))

/-- The block after the mixer. -/
def blkX2 (i : grid0.Coords) (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) : FVec Ideal S512x1024 .f32 :=
  k0_pay9 (View.ld x7 (Rect.unit (s := S8x6144) (k0_off1 i) S1x1024.size (k0_off1_inb i))) (mixLo x0 x1 x2 x3 x4 x5 x6 x7 x8 x9 x10 x11 x12 x13 x14 x15) (mixHi x0 x1 x2 x3 x4 x5 x6 x7 x8 x9 x10 x11 x12 x13 x14 x15) (View.ld x0 (Rect.unit (s := S512x1024) ![0, 0] S256x1024.size inb_S512x1024_S256x1024_0_0)) (View.ld x8 (Rect.unit (s := S6x1024) ![3, 0] S1x1024.size inb_S6x1024_S1x1024_3_0)) (View.ld x0 (Rect.unit (s := S512x1024) ![256, 0] S256x1024.size inb_S512x1024_S256x1024_256_0)) (View.ld x8 (Rect.unit (s := S6x1024) ![3, 0] S1x1024.size inb_S6x1024_S1x1024_3_0))

/-- What the body stores at the grid point `i`, of the blocks its windows hold. -/
def blk (i : grid0.Coords) (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) : FVec Ideal S512x1024 .f32 :=
  k0_pay17 (View.ld x7 (Rect.unit (s := S8x6144) (k0_off4 i) S1x1024.size (k0_off4_inb i))) (k0_pay10 (blkX2 i x0 x1 x2 x3 x4 x5 x6 x7 x8 x9 x10 x11 x12 x13 x14 x15)) (k0_pay11 (blkX2 i x0 x1 x2 x3 x4 x5 x6 x7 x8 x9 x10 x11 x12 x13 x14 x15))
    (k0_pay14 (k0_pay12 (blkX2 i x0 x1 x2 x3 x4 x5 x6 x7 x8 x9 x10 x11 x12 x13 x14 x15) (View.ld x7 (Rect.unit (s := S8x6144) (k0_off2 i) S1x1024.size (k0_off2_inb i))) (View.ld x7 (Rect.unit (s := S8x6144) (k0_off3 i) S1x1024.size (k0_off3_inb i))) (View.ld x8 (Rect.unit (s := S6x1024) ![4, 0] S1x1024.size inb_S6x1024_S1x1024_4_0))) (View.ld x14 (Rect.unit (s := S1024x5632) ![0, 0] S1024x5632.size inb_S1024x5632_S1024x5632_0_0)) (View.ld x15 (Rect.unit (s := S2816x1024) ![0, 0] S2816x1024.size inb_S2816x1024_S2816x1024_0_0)))
    (k0_pay15 (View.ld x7 (Rect.unit (s := S8x6144) (k0_off2 i) S1x1024.size (k0_off2_inb i))) (View.ld x7 (Rect.unit (s := S8x6144) (k0_off3 i) S1x1024.size (k0_off3_inb i))) (k0_pay11 (blkX2 i x0 x1 x2 x3 x4 x5 x6 x7 x8 x9 x10 x11 x12 x13 x14 x15)) (View.ld x8 (Rect.unit (s := S6x1024) ![4, 0] S1x1024.size inb_S6x1024_S1x1024_4_0)) (k0_pay13 (blkX2 i x0 x1 x2 x3 x4 x5 x6 x7 x8 x9 x10 x11 x12 x13 x14 x15)) (View.ld x14 (Rect.unit (s := S1024x5632) ![0, 0] S1024x5632.size inb_S1024x5632_S1024x5632_0_0)) (View.ld x15 (Rect.unit (s := S2816x1024) ![0, 0] S2816x1024.size inb_S2816x1024_S2816x1024_0_0)))
    (k0_pay16 (View.ld x7 (Rect.unit (s := S8x6144) (k0_off4 i) S1x1024.size (k0_off4_inb i)))) (View.ld x8 (Rect.unit (s := S6x1024) ![5, 0] S1x1024.size inb_S6x1024_S1x1024_5_0)) (View.ld x8 (Rect.unit (s := S6x1024) ![5, 0] S1x1024.size inb_S6x1024_S1x1024_5_0))

/-- The stored block at a row of its first 256. -/
theorem blk_lo (i : grid0.Coords) (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) (p : Tok) (r : Fin 256)
    (hx : ∀ j : Fin 1024, x0 (ix2 (⟨r.val, by omega⟩ : Fin 512) j) = p.x j) (hyf : ∀ k : Fin 512, x1 (ix2 (⟨r.val, by omega⟩ : Fin 512) k) = p.yf k) (hyb : ∀ k : Fin 512, x2 (ix2 (⟨r.val, by omega⟩ : Fin 512) k) = p.yb k)
    (hbv : ∀ k : Fin 512, x3 (ix2 (⟨r.val, by omega⟩ : Fin 512) k) = p.bv k) (hsg : ∀ k : Fin 512, x4 (ix2 (⟨r.val, by omega⟩ : Fin 512) k) = p.sg k)
    (hsa : ∀ j : Fin 1024, x5 (ix2 (⟨r.val, by omega⟩ : Fin 512) j) = p.sa j) (hmb : ∀ j : Fin 1024, x6 (ix2 (⟨r.val, by omega⟩ : Fin 512) j) = p.mb j)
    (hm1 : ∀ j : Fin 1024, View.ld x7 (Rect.unit (s := S8x6144) (k0_off1 i) S1x1024.size (k0_off1_inb i)) (ix2 0 j) = p.md ⟨2048 + j.val, by omega⟩)
    (hm2 : ∀ j : Fin 1024, View.ld x7 (Rect.unit (s := S8x6144) (k0_off2 i) S1x1024.size (k0_off2_inb i)) (ix2 0 j) = p.md ⟨3072 + j.val, by omega⟩)
    (hm3 : ∀ j : Fin 1024, View.ld x7 (Rect.unit (s := S8x6144) (k0_off3 i) S1x1024.size (k0_off3_inb i)) (ix2 0 j) = p.md ⟨4096 + j.val, by omega⟩)
    (hm4 : ∀ j : Fin 1024, View.ld x7 (Rect.unit (s := S8x6144) (k0_off4 i) S1x1024.size (k0_off4_inb i)) (ix2 0 j) = p.md ⟨5120 + j.val, by omega⟩)
    (hg : ∀ (i : Fin 6) (j : Fin 1024), x8 (ix2 i j) = p.g i j)
    (hgg : ∀ k : Fin 512, x9 (ix2 0 k) = p.gg k) (hgb : ∀ k : Fin 512, x10 (ix2 0 k) = p.gb k)
    (hwa : ∀ (k : Fin 512) (j : Fin 1024), x11 (ix2 k j) = p.wa k j) (hwo : ∀ k j : Fin 1024, x12 (ix2 k j) = p.wo k j)
    (h1 : ∀ a b : Fin 512, x13 (ix2 a b) = if a.val / 64 = b.val / 64 then (1 : EReal) else 0)
    (hw13 : ∀ (k : Fin 1024) (j : Fin 5632), x14 (ix2 k j) = p.w13 k j) (hw2 : ∀ (k : Fin 2816) (j : Fin 1024), x15 (ix2 k j) = p.w2 k j) (j : Fin 1024) :
    blk i x0 x1 x2 x3 x4 x5 x6 x7 x8 x9 x10 x11 x12 x13 x14 x15 (ix2 ⟨r.val, by omega⟩ j) = p.out j := by
  have e1 : ∀ j : Fin 1024, mixLo x0 x1 x2 x3 x4 x5 x6 x7 x8 x9 x10 x11 x12 x13 x14 x15 (ix2 r j) = p.mix j :=
    mix0 p r _ _ _ _ _ _ (gn0 p r _ _ _ _ _ _ (fun k j => by pointwise; exact h1 k j) (fun k => by pointwise; exact hyf k) (fun k => by pointwise; exact hyb k) (fun k => by pointwise; exact hgg k) (fun k => by pointwise; exact hgb k) (fun k => by pointwise; exact hbv k))
      (fun k => by pointwise; exact hsg k) (fun k j => by pointwise; exact hwa k j) (fun k => by pointwise; exact hsa k) (fun k => by pointwise; exact hmb k) (fun k j => by pointwise; exact hwo k j)
  have e2 : ∀ j : Fin 1024, k0_pay10 (blkX2 i x0 x1 x2 x3 x4 x5 x6 x7 x8 x9 x10 x11 x12 x13 x14 x15) (ix2 r j) = p.x2 j :=
    x20 p r _ _ _ _ _ _ _ hm1 e1 (fun k => by pointwise; exact hx k) (fun j => by pointwise; exact hg 3 j)
  exact out0 p r _ _ _ _ _ _ _ hm4 e2 (ff0 p r _ _ _ (h0 p r _ _ _ _ e2 hm2 hm3 (fun j => by pointwise; exact hg 4 j)) (fun k j => by pointwise; exact hw13 k j) (fun k j => by pointwise; exact hw2 k j)) (fun j => by pointwise; exact hg 5 j) j

/-- The stored block at a row of its last 256. -/
theorem blk_hi (i : grid0.Coords) (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) (p : Tok) (r : Fin 256)
    (hx : ∀ j : Fin 1024, x0 (ix2 (⟨256 + r.val, by omega⟩ : Fin 512) j) = p.x j) (hyf : ∀ k : Fin 512, x1 (ix2 (⟨256 + r.val, by omega⟩ : Fin 512) k) = p.yf k) (hyb : ∀ k : Fin 512, x2 (ix2 (⟨256 + r.val, by omega⟩ : Fin 512) k) = p.yb k)
    (hbv : ∀ k : Fin 512, x3 (ix2 (⟨256 + r.val, by omega⟩ : Fin 512) k) = p.bv k) (hsg : ∀ k : Fin 512, x4 (ix2 (⟨256 + r.val, by omega⟩ : Fin 512) k) = p.sg k)
    (hsa : ∀ j : Fin 1024, x5 (ix2 (⟨256 + r.val, by omega⟩ : Fin 512) j) = p.sa j) (hmb : ∀ j : Fin 1024, x6 (ix2 (⟨256 + r.val, by omega⟩ : Fin 512) j) = p.mb j)
    (hm1 : ∀ j : Fin 1024, View.ld x7 (Rect.unit (s := S8x6144) (k0_off1 i) S1x1024.size (k0_off1_inb i)) (ix2 0 j) = p.md ⟨2048 + j.val, by omega⟩)
    (hm2 : ∀ j : Fin 1024, View.ld x7 (Rect.unit (s := S8x6144) (k0_off2 i) S1x1024.size (k0_off2_inb i)) (ix2 0 j) = p.md ⟨3072 + j.val, by omega⟩)
    (hm3 : ∀ j : Fin 1024, View.ld x7 (Rect.unit (s := S8x6144) (k0_off3 i) S1x1024.size (k0_off3_inb i)) (ix2 0 j) = p.md ⟨4096 + j.val, by omega⟩)
    (hm4 : ∀ j : Fin 1024, View.ld x7 (Rect.unit (s := S8x6144) (k0_off4 i) S1x1024.size (k0_off4_inb i)) (ix2 0 j) = p.md ⟨5120 + j.val, by omega⟩)
    (hg : ∀ (i : Fin 6) (j : Fin 1024), x8 (ix2 i j) = p.g i j)
    (hgg : ∀ k : Fin 512, x9 (ix2 0 k) = p.gg k) (hgb : ∀ k : Fin 512, x10 (ix2 0 k) = p.gb k)
    (hwa : ∀ (k : Fin 512) (j : Fin 1024), x11 (ix2 k j) = p.wa k j) (hwo : ∀ k j : Fin 1024, x12 (ix2 k j) = p.wo k j)
    (h1 : ∀ a b : Fin 512, x13 (ix2 a b) = if a.val / 64 = b.val / 64 then (1 : EReal) else 0)
    (hw13 : ∀ (k : Fin 1024) (j : Fin 5632), x14 (ix2 k j) = p.w13 k j) (hw2 : ∀ (k : Fin 2816) (j : Fin 1024), x15 (ix2 k j) = p.w2 k j) (j : Fin 1024) :
    blk i x0 x1 x2 x3 x4 x5 x6 x7 x8 x9 x10 x11 x12 x13 x14 x15 (ix2 ⟨256 + r.val, by omega⟩ j) = p.out j := by
  have e1 : ∀ j : Fin 1024, mixHi x0 x1 x2 x3 x4 x5 x6 x7 x8 x9 x10 x11 x12 x13 x14 x15 (ix2 r j) = p.mix j :=
    mix1 p r _ _ _ _ _ _ _ (gn1 p r _ _ _ _ _ (fun k j => by pointwise; exact h1 k j) (fun k => by pointwise; exact hyf k) (fun k => by pointwise; exact hyb k) (fun k => by pointwise; exact hgg k) (fun k => by pointwise; exact hgb k)) (fun k => by pointwise; exact hbv k)
      (fun k => by pointwise; exact hsg k) (fun k j => by pointwise; exact hwa k j) (fun k => by pointwise; exact hsa k) (fun k => by pointwise; exact hmb k) (fun k j => by pointwise; exact hwo k j)
  have e2 : ∀ j : Fin 1024, k0_pay11 (blkX2 i x0 x1 x2 x3 x4 x5 x6 x7 x8 x9 x10 x11 x12 x13 x14 x15) (ix2 r j) = p.x2 j :=
    x21 p r _ _ _ _ _ _ _ hm1 e1 (fun k => by pointwise; exact hx k) (fun j => by pointwise; exact hg 3 j)
  exact out1 p r _ _ _ _ _ _ _ hm4 e2 (ff1 p r _ _ _ _ _ _ e2 hm2 hm3 (fun j => by pointwise; exact hg 4 j) (fun k j => by pointwise; exact hw13 k j) (fun k j => by pointwise; exact hw2 k j)) (fun j => by pointwise; exact hg 5 j) j

theorem hz : (![0, 0] : Fin 2 → Nat) = fun _ => 0 := funext fun a => by fin_cases a <;> rfl

/-- What case A leaves in output 16's buffer is the block. -/
theorem out_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : cond0_0 i) (hc1 : ¬cond0_1 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 = blk i x0 x1 x2 x3 x4 x5 x6 x7 x8 x9 x10 x11 x12 x13 x14 x15 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

/-- What case B leaves in output 17's buffer is the block. -/
theorem out_B (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x6144 .f32) (harg8 : arg8.IsWhole) (arg9 : Memref sig .tc .vmem S6x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S512x512 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x1024 .f32) (harg18 : arg18.IsWhole) (hc0 : ¬cond0_0 i) (hc1 : cond0_1 i)
    (x0 : Vec Ideal S512x1024 .f32) (x1 : Vec Ideal S512x512 .f32) (x2 : Vec Ideal S512x512 .f32) (x3 : Vec Ideal S512x512 .bf16) (x4 : Vec Ideal S512x512 .bf16) (x5 : Vec Ideal S512x1024 .bf16) (x6 : Vec Ideal S512x1024 .bf16) (x7 : Vec Ideal S8x6144 .f32) (x8 : Vec Ideal S6x1024 .f32) (x9 : Vec Ideal S1x512 .f32) (x10 : Vec Ideal S1x512 .f32) (x11 : Vec Ideal S512x1024 .bf16) (x12 : Vec Ideal S1024x1024 .bf16) (x13 : Vec Ideal S512x512 .bf16) (x14 : Vec Ideal S1024x5632 .bf16) (x15 : Vec Ideal S2816x1024 .bf16) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 = blk i x0 x1 x2 x3 x4 x5 x6 x7 x8 x9 x10 x11 x12 x13 x14 x15 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

end Cert.BackIdeal.Row
-- ==== Proof.BackHand.Value.lean ====
/- The frame and the run of the program BackIdeal, window by window: part Value. -/
module

public import proofs.«01_k».proof.Proof.BackHand.Frame
public import Idealize.ShloMosaic.Lib.Pipeline.Value

@[expose] public section

noncomputable section

namespace Cert.BackIdeal.Value

open Cert.BackIdeal Cert.BackIdeal.Gen Cert.BackIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 16's array: the run's contents for that window after the body (`Gen.outsAt0`: its component 0), read through the window's block. -/
theorem flushed16 (c : Dev nD) (t : Fin cfg0.N) :
    (dats m 0 c).flushed 16 t = (cfg0.win 16).cut (grid0.coords t) ((outsAt0 m c t.val t.isLt).1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — by the frame's rewriting lemma for the case. -/
theorem flushed16_A (c : Dev nD) (t : Fin cfg0.N) (h0 : t.val < 8) (h1 : ¬8 ≤ t.val) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed16, outsAt0_A m c t h0 h1]

/-- … so at a point where case B runs, what its write-back would write is that case's NAMED TERM for the window (`Gen.out0_B_16`: the pieces
    its run found, read back) at the point's memrefs and input blocks, and for an output the case reads back what the point before left (`Gen.outsAt0` at `t - 1`) — by the frame's rewriting lemma for the case. -/
theorem flushed16_B (c : Dev nD) (t : Fin cfg0.N) (h0 : ¬t.val < 8) (h1 : 8 ≤ t.val) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).1) := by
  simp only [flushed16, outsAt0_B m c t h0 h1]

-- no `blocks16`: window 16's index map revisits a block index, or its points could not be enumerated here;
-- the final array is still the frame's `arrAt`, to read with Lib/Pipeline/Value.lean's lemmas by hand

/-- An index that no flushing point's block covers keeps output window 16's array contents at region entry. -/
theorem entry16 (c : Dev nD) (i : S4096x1024.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 1), read through the window's block. -/
theorem flushed17 (c : Dev nD) (t : Fin cfg0.N) :
    (dats m 0 c).flushed 17 t = (cfg0.win 17).cut (grid0.coords t) ((outsAt0 m c t.val t.isLt).2) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — by the frame's rewriting lemma for the case. -/
theorem flushed17_A (c : Dev nD) (t : Fin cfg0.N) (h0 : t.val < 8) (h1 : ¬8 ≤ t.val) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed17, outsAt0_A m c t h0 h1]

/-- … so at a point where case B runs, what its write-back would write is that case's NAMED TERM for the window (`Gen.out0_B_17`: the pieces
    its run found, read back) at the point's memrefs and input blocks, and for an output the case reads back what the point before left (`Gen.outsAt0` at `t - 1`) — by the frame's rewriting lemma for the case. -/
theorem flushed17_B (c : Dev nD) (t : Fin cfg0.N) (h0 : ¬t.val < 8) (h1 : 8 ≤ t.val) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed17, outsAt0_B m c t h0 h1]

-- no `blocks17`: window 17's index map revisits a block index, or its points could not be enumerated here;
-- the final array is still the frame's `arrAt`, to read with Lib/Pipeline/Value.lean's lemmas by hand

/-- An index that no flushing point's block covers keeps output window 17's array contents at region entry. -/
theorem entry17 (c : Dev nD) (i : S4096x1024.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v9_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v9_1) = (dats m 0 c).arrAt 17 cfg0.N :=
  (h c).1 17

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 14 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 14).trans (((dats m 0 c).arrAt_in 14 rfl _).trans ((A_eq m c 14).trans (V_main_arg13 m c)))

/-- After the frame run, argument `main_arg14` is as launched: input window 15 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 15).trans (((dats m 0 c).arrAt_in 15 rfl _).trans ((A_eq m c 15).trans (V_main_arg14 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 16 cfg0.N
      ∧ r.2.mem ((c : Thread nD τ).loc main_v9_1) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.BackIdeal.Value

end
-- ==== Proof.BackVal.lean ====
/- The kernel's two results after the run, token by token. -/
module

public import proofs.«01_k».proof.Proof.BackIn
public import proofs.«01_k».proof.Proof.BackOut
public import proofs.«01_k».proof.Proof.BackHand.Value

@[expose] public section

set_option maxRecDepth 16384

noncomputable section

namespace Cert.BackIdeal.Row

open Cert.BackIdeal Cert.BackIdeal.Gen Cert.BackIdeal.Hand Cert.BackIdeal.Value Idealize.ShloMosaic Idealize.ShloMosaic.TcCoe Idealize.SL.Sem
open Idealize.ShloMosaic.Pipeline (Dat)
open Cert.BackSpec

variable (m : (ℓ : Loc nD τ sig) → Buf (Elt Ideal) ℓ)

/-- The block the body makes of point `t`'s input blocks. -/
def blkAt (c : Dev nD) (t : Fin cfg0.N) : FVec Ideal S512x1024 .f32 :=
  blk (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)

/-- A row of the modulation loaded at point `t`. -/
theorem md_at (c : Dev nD) (t : Fin cfg0.N) (o : Fin 2 → Nat) (h : ∀ a, o a + S1x1024.size a ≤ S8x6144.size a) (k : Nat)
    (ho : o 0 = (rowT t).val ∧ o 1 = k) (q : Fin 512) (j : Fin 1024) (hk : k + j.val < 6144) :
    View.ld (iblk m c 7 t) (Rect.unit (s := S8x6144) o S1x1024.size h) (ix2 0 j) = (tok m c (at512 t q)).md ⟨k + j.val, hk⟩ := by
  rw [ld_row _ o h (rowT t) k ho.1 ho.2 j hk, in7]
  show _ = m ((c : Thread nD τ).loc main_arg7) (ix2 (modRow (at512 t q)) _)
  rw [modRow_at]

/-- The block at point `t`, row by row, is the layer's value of its tokens. -/
theorem blkAt_row (c : Dev nD) (t : Fin cfg0.N) (q : Fin 512) (j : Fin 1024) : blkAt m c t (ix2 q j) = (tok m c (at512 t q)).out j := by
  unfold blkAt
  rcases Nat.lt_or_ge q.val 256 with h | h
  · exact blk_lo (grid0.coords t) _ _ _ _ _ _ _ _ _ _ _ _ _ _ _ _ (tok m c (at512 t q)) ⟨q.val, h⟩
      (fun j => in0 m c t q j) (fun j => in1 m c t q j) (fun j => in2 m c t q j) (fun j => in3 m c t q j)
      (fun j => in4 m c t q j) (fun j => in5 m c t q j) (fun j => in6 m c t q j)
      (fun j => md_at m c t _ _ 2048 (off1 t) q j _) (fun j => md_at m c t _ _ 3072 (off2 t) q j _)
      (fun j => md_at m c t _ _ 4096 (off3 t) q j _) (fun j => md_at m c t _ _ 5120 (off4 t) q j _)
      (fun i j => in8 m c t i j) (fun j => in9 m c t 0 j) (fun j => in10 m c t 0 j) (fun i j => in11 m c t i j)
      (fun i j => in12 m c t i j) (fun i j => in13 m c t i j) (fun i j => in14 m c t i j) (fun i j => in15 m c t i j) j
  · obtain ⟨s, rfl⟩ : ∃ s : Fin 256, q = (⟨256 + s.val, Nat.add_lt_add_left s.isLt 256⟩ : Fin 512) :=
      ⟨⟨q.val - 256, by omega⟩, Fin.ext (by show q.val = 256 + (q.val - 256); omega)⟩
    exact blk_hi (grid0.coords t) _ _ _ _ _ _ _ _ _ _ _ _ _ _ _ _ (tok m c (at512 t ⟨256 + s.val, by omega⟩)) s
      (fun j => in0 m c t ⟨256 + s.val, by omega⟩ j) (fun j => in1 m c t ⟨256 + s.val, by omega⟩ j) (fun j => in2 m c t ⟨256 + s.val, by omega⟩ j) (fun j => in3 m c t ⟨256 + s.val, by omega⟩ j)
      (fun j => in4 m c t ⟨256 + s.val, by omega⟩ j) (fun j => in5 m c t ⟨256 + s.val, by omega⟩ j) (fun j => in6 m c t ⟨256 + s.val, by omega⟩ j)
      (fun j => md_at m c t _ _ 2048 (off1 t) ⟨256 + s.val, by omega⟩ j _) (fun j => md_at m c t _ _ 3072 (off2 t) ⟨256 + s.val, by omega⟩ j _)
      (fun j => md_at m c t _ _ 4096 (off3 t) ⟨256 + s.val, by omega⟩ j _) (fun j => md_at m c t _ _ 5120 (off4 t) ⟨256 + s.val, by omega⟩ j _)
      (fun i j => in8 m c t i j) (fun j => in9 m c t 0 j) (fun j => in10 m c t 0 j) (fun i j => in11 m c t i j)
      (fun i j => in12 m c t i j) (fun i j => in13 m c t i j) (fun i j => in14 m c t i j) (fun i j => in15 m c t i j) j

/-- The result for the prompt's tokens. -/
def result16 (c : Dev nD) : Buf (Elt Ideal) ((c : Thread nD τ).loc main_v9_0) :=
  fun i => (tok m c ⟨(i 0).val, by have : (i 0).val < 4096 := (i 0).isLt; omega⟩).out (i 1)

/-- The result for the latents' tokens. -/
def result17 (c : Dev nD) : Buf (Elt Ideal) ((c : Thread nD τ).loc main_v9_1) :=
  fun i => (tok m c ⟨4096 + (i 0).val, by have : (i 0).val < 4096 := (i 0).isLt; omega⟩).out (i 1)

/-- At the first eight points the first result's buffer holds the point's block. -/
theorem outs16_A (c : Dev nD) (t : Fin cfg0.N) (h0 : t.val < 8) : (outsAt0 m c t.val t.isLt).1 = blkAt m c t := by
  rw [outsAt0_A m c t h0 (by omega)]
  dsimp only
  rw [out_A]
  rfl

/-- From the eighth point on it keeps the block of the last of them. -/
theorem outs16_B (c : Dev nD) : ∀ (n : ℕ) (h : n < cfg0.N) (h7 : 7 ≤ n),
    (outsAt0 m c n h).1 = blkAt m c ⟨7, lt_of_le_of_lt h7 h⟩
  | 0, _, h7 => absurd h7 (by omega)
  | n + 1, h, h7 => by
    rcases Nat.lt_or_ge (n + 1) 8 with h8 | h8
    · obtain rfl : n = 6 := by omega
      exact outs16_A m c ⟨7, h⟩ (show 7 < 8 by decide)
    · have ih := outs16_B c n (Nat.lt_of_succ_lt h) (by omega)
      rw [outsAt0_B m c ⟨n + 1, h⟩ (by dsimp only; omega) h8]
      exact ih

/-- At the last eight points the second result's buffer holds the point's block. -/
theorem outs17_B (c : Dev nD) (t : Fin cfg0.N) (h0 : 8 ≤ t.val) : (outsAt0 m c t.val t.isLt).2 = blkAt m c t := by
  rw [outsAt0_B m c t (by omega) h0]
  dsimp only
  rw [out_B]
  rfl

theorem flush16 : ∀ t : Fin grid0.N, win0_16.flush t = true → t.val < 7 ∨ t.val = 15 := by decide +kernel
theorem flush17 : ∀ t : Fin grid0.N, win0_17.flush t = true → 8 ≤ t.val := by decide +kernel
theorem index16 : ∀ t : Fin grid0.N, win0_16.index t 0 = min t.val 7 ∧ win0_16.index t 1 = 0 := by decide +kernel
theorem index17 : ∀ t : Fin grid0.N, win0_17.index t 0 = t.val - 8 ∧ win0_17.index t 1 = 0 := by decide +kernel

theorem flushed_eq16 (c : Dev nD) (t : Fin cfg0.N) (hf : (cfg0.win 16).flush t = true) :
    (dats m 0 c).flushed 16 t = ((cfg0.win 16).blk t).view.read (Elt Ideal) (result16 m c) := by
  have hN : t.val < 16 := lt_of_lt_of_eq t.isLt (show cfg0.N = 16 from N_0)
  have h7 : min t.val 7 < cfg0.N := lt_of_le_of_lt (Nat.min_le_left _ _) t.isLt
  have e : (outsAt0 m c t.val t.isLt).1 = blkAt m c ⟨min t.val 7, h7⟩ := by
    rcases flush16 t hf with h | h
    · rw [outs16_A m c t (by omega)]
      exact congrArg (blkAt m c) (Fin.ext (by show t.val = min t.val 7; omega))
    · rw [outs16_B m c t.val t.isLt (by omega)]
      exact congrArg (blkAt m c) (Fin.ext (by show 7 = min t.val 7; omega))
  rw [flushed16, e]
  funext y
  rw [View.read_apply]
  obtain ⟨q, j, rfl⟩ : ∃ (q : Fin 512) (j : Fin 1024), y = (ix2 q j : S512x1024.Idx) := ⟨y 0, y 1, ValueIdx.eq_ix2 y⟩
  show blkAt m c ⟨min t.val 7, h7⟩ (ix2 q j) = _
  rw [blkAt_row]
  unfold result16
  congr 2
  · apply Fin.ext
    show 512 * min t.val 7 + q.val = win0_16.index t 0 * 512 + 1 * q.val
    rw [(index16 t).1]; omega
  · apply Fin.ext
    show j.val = win0_16.index t 1 * 1024 + 1 * j.val
    rw [(index16 t).2]; omega

theorem flushed_eq17 (c : Dev nD) (t : Fin cfg0.N) (hf : (cfg0.win 17).flush t = true) :
    (dats m 0 c).flushed 17 t = ((cfg0.win 17).blk t).view.read (Elt Ideal) (result17 m c) := by
  have hN : t.val < 16 := lt_of_lt_of_eq t.isLt (show cfg0.N = 16 from N_0)
  have h8 := flush17 t hf
  rw [flushed17, outs17_B m c t h8]
  funext y
  rw [View.read_apply]
  obtain ⟨q, j, rfl⟩ : ∃ (q : Fin 512) (j : Fin 1024), y = (ix2 q j : S512x1024.Idx) := ⟨y 0, y 1, ValueIdx.eq_ix2 y⟩
  show blkAt m c t (ix2 q j) = _
  rw [blkAt_row]
  unfold result17
  congr 2
  · apply Fin.ext
    show 512 * t.val + q.val = 4096 + (win0_17.index t 0 * 512 + 1 * q.val)
    rw [(index17 t).1]; omega
  · apply Fin.ext
    show j.val = win0_17.index t 1 * 1024 + 1 * j.val
    rw [(index17 t).2]; omega

/-- Each block of 512 rows of the first result is written back. -/
theorem point16 : ∀ k : Fin 8, ∃ t : Fin grid0.N, win0_16.flush t = true ∧ min t.val 7 = k.val := by decide +kernel
theorem point17 : ∀ k : Fin 8, ∃ t : Fin grid0.N, win0_17.flush t = true ∧ t.val - 8 = k.val := by decide +kernel

theorem final16 (c : Dev nD) : (dats m 0 c).arrAt 16 cfg0.N = result16 m c :=
  (dats m 0 c).arrAt_eq_of_cover 16 (result16 m c) (flushed_eq16 m c) fun i => by
    have h0 : (i 0 : Nat) < 4096 := (i 0).isLt
    have h1 : (i 1 : Nat) < 1024 := (i 1).isLt
    obtain ⟨t, hf, ht⟩ := point16 ⟨(i 0).val / 512, by omega⟩
    refine ⟨t, hf, ?_⟩
    show i ∈ ((View.whole main_v9_0).slice (win0_16.rect t)).set
    rw [View.set_slice_whole, Rect.mem_set_unit]
    intro a
    match a with
    | ⟨0, _⟩ =>
      show win0_16.index t 0 * 512 ≤ (i 0 : Nat) ∧ (i 0 : Nat) < win0_16.index t 0 * 512 + 512
      rw [(index16 t).1]; dsimp only at ht; omega
    | ⟨1, _⟩ =>
      show win0_16.index t 1 * 1024 ≤ (i 1 : Nat) ∧ (i 1 : Nat) < win0_16.index t 1 * 1024 + 1024
      rw [(index16 t).2]; omega

theorem final17 (c : Dev nD) : (dats m 0 c).arrAt 17 cfg0.N = result17 m c :=
  (dats m 0 c).arrAt_eq_of_cover 17 (result17 m c) (flushed_eq17 m c) fun i => by
    have h0 : (i 0 : Nat) < 4096 := (i 0).isLt
    have h1 : (i 1 : Nat) < 1024 := (i 1).isLt
    obtain ⟨t, hf, ht⟩ := point17 ⟨(i 0).val / 512, by omega⟩
    refine ⟨t, hf, ?_⟩
    show i ∈ ((View.whole main_v9_1).slice (win0_17.rect t)).set
    rw [View.set_slice_whole, Rect.mem_set_unit]
    intro a
    match a with
    | ⟨0, _⟩ =>
      show win0_17.index t 0 * 512 ≤ (i 0 : Nat) ∧ (i 0 : Nat) < win0_17.index t 0 * 512 + 512
      rw [(index17 t).1]; dsimp only at ht; omega
    | ⟨1, _⟩ =>
      show win0_17.index t 1 * 1024 ≤ (i 1 : Nat) ∧ (i 1 : Nat) < win0_17.index t 1 * 1024 + 1024
      rw [(index17 t).2]; omega

end Cert.BackIdeal.Row
-- ==== Proof.BackRef1.lean ====
/- The reference's result, read token by token, is the row-wise value. -/
module

public import proofs.«01_k».proof.Proof.Gen.BackRefIdeal.Run
public import proofs.«01_k».proof.Proof.BackSpec

@[expose] public section

set_option maxRecDepth 16384

noncomputable section

namespace Cert.BackRefIdeal.Row

open Cert.BackRefIdeal Cert.BackRefIdeal.Gen Cert.BackRefIdeal.Value Idealize.ShloMosaic Idealize.ShloMosaic.TcCoe Idealize.SL.Sem Idealize.ShloMosaic.StableHlo
open Cert.BackSpec

variable (V : Valuation τ sig (Elt Ideal))

/-- What token `r` reads of the arguments. -/
def tok (r : Fin 8192) : Tok where
  x j := V (Proc.tc.devRef main_arg0) (ix2 r j)
  yf j := V (Proc.tc.devRef main_arg1) (ix2 r j)
  yb j := V (Proc.tc.devRef main_arg2) (ix2 r j)
  bv j := V (Proc.tc.devRef main_arg3) (ix2 r j)
  sg j := V (Proc.tc.devRef main_arg4) (ix2 r j)
  sa j := V (Proc.tc.devRef main_arg5) (ix2 r j)
  mb j := V (Proc.tc.devRef main_arg6) (ix2 r j)
  md j := V (Proc.tc.devRef main_arg7) (ix2 (modRow r) j)
  g i j := V (Proc.tc.devRef main_arg8) (ix2 i j)
  gg j := V (Proc.tc.devRef main_arg9) (ix2 0 j)
  gb j := V (Proc.tc.devRef main_arg10) (ix2 0 j)
  wa i j := V (Proc.tc.devRef main_arg11) (ix2 i j)
  wo i j := V (Proc.tc.devRef main_arg12) (ix2 i j)
  w13 i j := V (Proc.tc.devRef main_arg13) (ix2 i j)
  w2 i j := V (Proc.tc.devRef main_arg14) (ix2 i j)

/-- The modulation of token `r`. -/
theorem v6 (r : Fin 8192) (j : Fin 6144) : res_main_v6 V (ix2 r j) = (tok V r).md j := by
  pointwise [res_main_v6]
  show _ = V (Proc.tc.devRef main_arg7) (ix2 (modRow r) j)
  unfold modRow
  by_cases h0 : r.val < 4096
  · rw [dif_pos h0, if_pos h0]
  · by_cases h1 : r.val < 6144
    · rw [dif_neg h0, if_neg h0, dif_pos (by omega), if_pos h1]
    · rw [dif_neg h0, if_neg h0, dif_neg (by omega), if_neg h1]

/-- The centred row, by head and channel. -/
theorem v18 (r : Fin 8192) (h : Fin 8) (j : Fin 64) :
    res_main_v18 V (ix3 r h j) = yc (tok V r).y ⟨h.val * 64 + j.val, by omega⟩ := by
  pointwise [res_main_v18, res_main_v12]
  unfold yc
  have e : ∀ x : Fin 64, inHead ⟨h.val * 64 + j.val, by omega⟩ x = ⟨h.val * 64 + x.val, by omega⟩ := fun x =>
    Fin.ext (by show (h.val * 64 + j.val) / 64 * 64 + x.val = h.val * 64 + x.val; omega)
  simp only [e]
  rfl

/-- The mixer's output. -/
theorem v45 (r : Fin 8192) (j : Fin 1024) : res_main_v45 V (ix2 r j) = (tok V r).mix j := by
  pointwise [res_main_v45]
  simp only [v18]
  have e1 : ∀ k : Fin 512, (⟨k.val / 64 * 64 + k.val % 64, by omega⟩ : Fin 512) = k := fun k =>
    Fin.ext (by show k.val / 64 * 64 + k.val % 64 = k.val; omega)
  simp only [e1]
  rfl

/-- The token after the mixing block. -/
theorem v62 (r : Fin 8192) (j : Fin 1024) : res_main_v62 V (ix2 r j) = (tok V r).x2 j := by
  pointwise [res_main_v62]
  simp only [v45, v6]
  rfl

/-- The feed-forward block's first product. -/
theorem v86 (r : Fin 8192) (j : Fin 5632) : res_main_v86 V (ix2 r j) = (tok V r).gu j := by
  pointwise [res_main_v86]
  simp only [v62, v6]
  rfl

/-- The feed-forward block's second product. -/
theorem v97 (r : Fin 8192) (j : Fin 1024) : res_main_v97 V (ix2 r j) = (tok V r).ff j := by
  pointwise [res_main_v97, res_main_v87]
  simp only [v86]
  rfl

/-- The reference's result, token by token. -/
theorem v114 (r : Fin 8192) (j : Fin 1024) : res_main_v114 V (ix2 r j) = (tok V r).out j := by
  pointwise [res_main_v114]
  simp only [v97, v62, v6]
  rfl

end Cert.BackRefIdeal.Row
-- ==== Proof.FfnFrame.lean ====
/- The plain program's run is the ideal one's at the same values: its frame is the ideal program's. -/
module

public import proofs.«01_k».proof.Defs
public import proofs.«01_k».proof.Proof.Gen.Ffn
public import proofs.«01_k».proof.Proof.Gen.FfnIdeal

@[expose] public section

set_option maxRecDepth 100000
set_option maxHeartbeats 4000000

namespace Cert.FfnHand

open Idealize.ShloMosaic

/-- The one kernel's body is the same in both programs, -/
theorem defs₀_call (h) (a) : (@Cert.Ffn.defs₀ Bits _ Cert.Ffn.Gen.facts) .tc ⟨0, h⟩ a = (@Cert.FfnIdeal.defs₀ Bits _ Cert.FfnIdeal.Gen.facts) .tc ⟨0, h⟩ a := by
  obtain ⟨t, s⟩ := a
  rfl

/-- there is no other, -/
theorem defs₀_other (n : ℕ) (h) (a) : (@Cert.Ffn.defs₀ Bits _ Cert.Ffn.Gen.facts) .tc ⟨n + 1, h⟩ a = (@Cert.FfnIdeal.defs₀ Bits _ Cert.FfnIdeal.Gen.facts) .tc ⟨n + 1, h⟩ a :=
  absurd h (Nat.not_lt.2 (Nat.le_add_left _ _))

/-- so the kernels' table is, -/
theorem defs₀_eq : (@Cert.Ffn.defs₀ Bits _ Cert.Ffn.Gen.facts) = (@Cert.FfnIdeal.defs₀ Bits _ Cert.FfnIdeal.Gen.facts) := by
  funext pr
  cases pr with
  | tc =>
    funext l a
    obtain ⟨n, hl⟩ := l
    cases n with
    | zero => exact defs₀_call hl a
    | succ n => exact defs₀_other n hl a
  | scScalar i => rfl
  | scVector i j => rfl

/-- the calls' table, -/
theorem defs_eq : (@Cert.Ffn.defs Bits _ Cert.Ffn.Gen.facts) = (@Cert.FfnIdeal.defs Bits _ Cert.FfnIdeal.Gen.facts) :=
  congrArg (fun d => Pipeline.defs (Cert.FfnIdeal.pcfgs (F := Bits)) d) defs₀_eq

/-- and the function run. -/
theorem main_eq : (@Cert.Ffn.main Bits _) = (@Cert.FfnIdeal.main Bits _) := rfl

end Cert.FfnHand
-- ==== Proof.FfnHand.Runs.lean ====
/- The run of the program FfnIdeal, case by case: part Runs. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnIdeal.Hand

open Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 11 — decided over the grid. -/
theorem hcond0_0 : ∀ t : Fin cfg0.N, cond0_0 (grid0.coords t) ↔ t.val < 11 :=
  (by decide +kernel : ∀ t : Fin grid0.N, cond0_0 (grid0.coords t) ↔ t.val < 11)

/-- The condition of the body's `scf.if` 1 (`k0_h2`), from the grid coordinates (the skeleton's scalar
    chain substituted). -/
abbrev cond0_1 (i : grid0.Coords) : Prop := k0_cond2 i = 1#1
/-- It holds at the points before point 11 — decided over the grid. -/
theorem hcond0_1 : ∀ t : Fin cfg0.N, cond0_1 (grid0.coords t) ↔ t.val < 11 :=
  (by decide +kernel : ∀ t : Fin grid0.N, cond0_1 (grid0.coords t) ↔ t.val < 11)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 0#32)) 0#32) = 1#1
/-- It holds at the first point only — by arithmetic of the point. -/
theorem hcond0_2 : ∀ t : Fin cfg0.N, cond0_2 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_2, e0]
    word_cmp
   : ∀ t : Fin grid0.N, cond0_2 (grid0.coords t) ↔ t.val % 27 = 0)

/-- The condition of the body's `scf.if` 3 (`k0_h4`), from the grid coordinates (the skeleton's scalar
    chain substituted). -/
abbrev cond0_3 (i : grid0.Coords) : Prop := k0_cond4 i = 1#1
/-- It holds at the points before point 6 — decided over the grid. -/
theorem hcond0_3 : ∀ t : Fin cfg0.N, cond0_3 (grid0.coords t) ↔ t.val < 6 :=
  (by decide +kernel : ∀ t : Fin grid0.N, cond0_3 (grid0.coords t) ↔ t.val < 6)

/-- The condition of the body's `scf.if` 4 (`k0_h5`), from the grid coordinates (the skeleton's scalar
    chain substituted). -/
abbrev cond0_4 (i : grid0.Coords) : Prop := k0_cond5 i = 1#1
/-- It holds at the points from point 11 on — decided over the grid. -/
theorem hcond0_4 : ∀ t : Fin cfg0.N, cond0_4 (grid0.coords t) ↔ 11 ≤ t.val :=
  (by decide +kernel : ∀ t : Fin grid0.N, cond0_4 (grid0.coords t) ↔ 11 ≤ t.val)

/-- The condition of the body's `scf.if` 5 (`k0_h6`), from the grid coordinates (the skeleton's scalar
    chain substituted). -/
abbrev cond0_5 (i : grid0.Coords) : Prop := k0_cond6 i = 1#1
/-- It holds at the points before point 23 — decided over the grid. -/
theorem hcond0_5 : ∀ t : Fin cfg0.N, cond0_5 (grid0.coords t) ↔ t.val < 23 :=
  (by decide +kernel : ∀ t : Fin grid0.N, cond0_5 (grid0.coords t) ↔ t.val < 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- Case B's branch conditions on the grid, as one proposition. -/
abbrev conds0_B (i : grid0.Coords) : Prop := cond0_0 i ∧ cond0_1 i ∧ ¬cond0_2 i ∧ cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- Case C's branch conditions on the grid, as one proposition. -/
abbrev conds0_C (i : grid0.Coords) : Prop := cond0_0 i ∧ cond0_1 i ∧ ¬cond0_2 i ∧ ¬cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- Case D's branch conditions on the grid, as one proposition. -/
abbrev conds0_D (i : grid0.Coords) : Prop := ¬cond0_0 i ∧ ¬cond0_1 i ∧ ¬cond0_2 i ∧ ¬cond0_3 i ∧ cond0_4 i ∧ cond0_5 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance inferInstance))))
/-- Case E's branch conditions on the grid, as one proposition. -/
abbrev conds0_E (i : grid0.Coords) : Prop := ¬cond0_0 i ∧ ¬cond0_1 i ∧ ¬cond0_2 i ∧ ¬cond0_3 i ∧ cond0_4 i ∧ ¬cond0_5 i
instance conds0_E.dec (i : grid0.Coords) : Decidable (conds0_E i) :=
  @instDecidableAnd _ _ inferInstance (@instDecidableAnd _ _ inferInstance (@instDecidableAnd _ _ inferInstance (@instDecidableAnd _ _ inferInstance (@instDecidableAnd _ _ inferInstance inferInstance))))
/-- At the points of case A the printed configuration (`Cfg.idle`) calls output 10 idle: the case stores nothing into it. -/
theorem idleAt0_10_A : ∀ t : Fin cfg0.N, cond0_0 (grid0.coords t) → cond0_1 (grid0.coords t) → cond0_2 (grid0.coords t) → cond0_3 (grid0.coords t) → ¬cond0_4 (grid0.coords t) → cfg0.idle 10 (grid0.coords t) = true :=
  fun t h0 h1 h2 h3 h4 => (by decide +kernel : ∀ t : Fin cfg0.N, conds0_A (grid0.coords t) → cfg0.idle 10 (grid0.coords t) = true) t ⟨h0, h1, h2, h3, h4⟩
/-- At the points of case A the pipeline does not write output 10's block back. -/
theorem noFlush0_10_A : ∀ t : Fin cfg0.N, cond0_0 (grid0.coords t) → cond0_1 (grid0.coords t) → cond0_2 (grid0.coords t) → cond0_3 (grid0.coords t) → ¬cond0_4 (grid0.coords t) → (cfg0.win 10).flush t = false :=
  fun t h0 h1 h2 h3 h4 => (by decide +kernel : ∀ t : Fin cfg0.N, conds0_A (grid0.coords t) → (cfg0.win 10).flush t = false) t ⟨h0, h1, h2, h3, h4⟩
/-- At the points of case B the printed configuration (`Cfg.idle`) calls output 10 idle: the case stores nothing into it. -/
theorem idleAt0_10_B : ∀ t : Fin cfg0.N, cond0_0 (grid0.coords t) → cond0_1 (grid0.coords t) → ¬cond0_2 (grid0.coords t) → cond0_3 (grid0.coords t) → ¬cond0_4 (grid0.coords t) → cfg0.idle 10 (grid0.coords t) = true :=
  fun t h0 h1 h2 h3 h4 => (by decide +kernel : ∀ t : Fin cfg0.N, conds0_B (grid0.coords t) → cfg0.idle 10 (grid0.coords t) = true) t ⟨h0, h1, h2, h3, h4⟩
/-- At the points of case B the pipeline does not write output 10's block back. -/
theorem noFlush0_10_B : ∀ t : Fin cfg0.N, cond0_0 (grid0.coords t) → cond0_1 (grid0.coords t) → ¬cond0_2 (grid0.coords t) → cond0_3 (grid0.coords t) → ¬cond0_4 (grid0.coords t) → (cfg0.win 10).flush t = false :=
  fun t h0 h1 h2 h3 h4 => (by decide +kernel : ∀ t : Fin cfg0.N, conds0_B (grid0.coords t) → (cfg0.win 10).flush t = false) t ⟨h0, h1, h2, h3, h4⟩
/-- At the points of case C the printed configuration (`Cfg.idle`) calls output 10 idle: the case stores nothing into it. -/
theorem idleAt0_10_C : ∀ t : Fin cfg0.N, cond0_0 (grid0.coords t) → cond0_1 (grid0.coords t) → ¬cond0_2 (grid0.coords t) → ¬cond0_3 (grid0.coords t) → ¬cond0_4 (grid0.coords t) → cfg0.idle 10 (grid0.coords t) = true :=
  fun t h0 h1 h2 h3 h4 => (by decide +kernel : ∀ t : Fin cfg0.N, conds0_C (grid0.coords t) → cfg0.idle 10 (grid0.coords t) = true) t ⟨h0, h1, h2, h3, h4⟩
/-- At the points of case C the pipeline does not write output 10's block back. -/
theorem noFlush0_10_C : ∀ t : Fin cfg0.N, cond0_0 (grid0.coords t) → cond0_1 (grid0.coords t) → ¬cond0_2 (grid0.coords t) → ¬cond0_3 (grid0.coords t) → ¬cond0_4 (grid0.coords t) → (cfg0.win 10).flush t = false :=
  fun t h0 h1 h2 h3 h4 => (by decide +kernel : ∀ t : Fin cfg0.N, conds0_C (grid0.coords t) → (cfg0.win 10).flush t = false) t ⟨h0, h1, h2, h3, h4⟩
/-- At the points of case D the printed configuration (`Cfg.idle`) calls output 10 live: the case stores into it. -/
theorem liveAt0_10_D : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → cfg0.idle 10 (grid0.coords t) = false :=
  fun t h0 h1 h2 h3 h4 h5 => (by decide +kernel : ∀ t : Fin cfg0.N, conds0_D (grid0.coords t) → cfg0.idle 10 (grid0.coords t) = false) t ⟨h0, h1, h2, h3, h4, h5⟩
/-- At the points of case E the printed configuration (`Cfg.idle`) calls output 10 live: the case stores into it. -/
theorem liveAt0_10_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 10 (grid0.coords t) = false :=
  fun t h0 h1 h2 h3 h4 h5 => (by decide +kernel : ∀ t : Fin cfg0.N, conds0_E (grid0.coords t) → cfg0.idle 10 (grid0.coords t) = false) t ⟨h0, h1, h2, h3, h4, h5⟩
/-- At the points of case A the printed configuration (`Cfg.idle`) calls output 11 idle: the case stores nothing into it. -/
theorem idleAt0_11_A : ∀ t : Fin cfg0.N, cond0_0 (grid0.coords t) → cond0_1 (grid0.coords t) → cond0_2 (grid0.coords t) → cond0_3 (grid0.coords t) → ¬cond0_4 (grid0.coords t) → cfg0.idle 11 (grid0.coords t) = true :=
  fun t h0 h1 h2 h3 h4 => (by decide +kernel : ∀ t : Fin cfg0.N, conds0_A (grid0.coords t) → cfg0.idle 11 (grid0.coords t) = true) t ⟨h0, h1, h2, h3, h4⟩
/-- At the points of case A the pipeline does not write output 11's block back. -/
theorem noFlush0_11_A : ∀ t : Fin cfg0.N, cond0_0 (grid0.coords t) → cond0_1 (grid0.coords t) → cond0_2 (grid0.coords t) → cond0_3 (grid0.coords t) → ¬cond0_4 (grid0.coords t) → (cfg0.win 11).flush t = false :=
  fun t h0 h1 h2 h3 h4 => (by decide +kernel : ∀ t : Fin cfg0.N, conds0_A (grid0.coords t) → (cfg0.win 11).flush t = false) t ⟨h0, h1, h2, h3, h4⟩
/-- At the points of case B the printed configuration (`Cfg.idle`) calls output 11 idle: the case stores nothing into it. -/
theorem idleAt0_11_B : ∀ t : Fin cfg0.N, cond0_0 (grid0.coords t) → cond0_1 (grid0.coords t) → ¬cond0_2 (grid0.coords t) → cond0_3 (grid0.coords t) → ¬cond0_4 (grid0.coords t) → cfg0.idle 11 (grid0.coords t) = true :=
  fun t h0 h1 h2 h3 h4 => (by decide +kernel : ∀ t : Fin cfg0.N, conds0_B (grid0.coords t) → cfg0.idle 11 (grid0.coords t) = true) t ⟨h0, h1, h2, h3, h4⟩
/-- At the points of case B the pipeline does not write output 11's block back. -/
theorem noFlush0_11_B : ∀ t : Fin cfg0.N, cond0_0 (grid0.coords t) → cond0_1 (grid0.coords t) → ¬cond0_2 (grid0.coords t) → cond0_3 (grid0.coords t) → ¬cond0_4 (grid0.coords t) → (cfg0.win 11).flush t = false :=
  fun t h0 h1 h2 h3 h4 => (by decide +kernel : ∀ t : Fin cfg0.N, conds0_B (grid0.coords t) → (cfg0.win 11).flush t = false) t ⟨h0, h1, h2, h3, h4⟩
/-- At the points of case C the printed configuration (`Cfg.idle`) calls output 11 idle: the case stores nothing into it. -/
theorem idleAt0_11_C : ∀ t : Fin cfg0.N, cond0_0 (grid0.coords t) → cond0_1 (grid0.coords t) → ¬cond0_2 (grid0.coords t) → ¬cond0_3 (grid0.coords t) → ¬cond0_4 (grid0.coords t) → cfg0.idle 11 (grid0.coords t) = true :=
  fun t h0 h1 h2 h3 h4 => (by decide +kernel : ∀ t : Fin cfg0.N, conds0_C (grid0.coords t) → cfg0.idle 11 (grid0.coords t) = true) t ⟨h0, h1, h2, h3, h4⟩
/-- At the points of case C the pipeline does not write output 11's block back. -/
theorem noFlush0_11_C : ∀ t : Fin cfg0.N, cond0_0 (grid0.coords t) → cond0_1 (grid0.coords t) → ¬cond0_2 (grid0.coords t) → ¬cond0_3 (grid0.coords t) → ¬cond0_4 (grid0.coords t) → (cfg0.win 11).flush t = false :=
  fun t h0 h1 h2 h3 h4 => (by decide +kernel : ∀ t : Fin cfg0.N, conds0_C (grid0.coords t) → (cfg0.win 11).flush t = false) t ⟨h0, h1, h2, h3, h4⟩
/-- At the points of case D the printed configuration (`Cfg.idle`) calls output 11 live: the case stores into it. -/
theorem liveAt0_11_D : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → cfg0.idle 11 (grid0.coords t) = false :=
  fun t h0 h1 h2 h3 h4 h5 => (by decide +kernel : ∀ t : Fin cfg0.N, conds0_D (grid0.coords t) → cfg0.idle 11 (grid0.coords t) = false) t ⟨h0, h1, h2, h3, h4, h5⟩
/-- At the points of case E the printed configuration (`Cfg.idle`) calls output 11 live: the case stores into it. -/
theorem liveAt0_11_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 11 (grid0.coords t) = false :=
  fun t h0 h1 h2 h3 h4 h5 => (by decide +kernel : ∀ t : Fin cfg0.N, conds0_E (grid0.coords t) → cfg0.idle 11 (grid0.coords t) = false) t ⟨h0, h1, h2, h3, h4, h5⟩
/-- Whether output 12's buffer is FRESH at each position `1 ‥ N` — holds nothing the body stored since the region's entry or the
    last write-back (written back at the point before, or idle there and fresh before it) —, as a bitmask the classifier
    computed, bit `n` for position `n + 1`; position 0 is fresh. `freshTab0_12_step` checks it against the configuration's own
    step point by point and Lib/Pipeline/TableIdle.lean `Cfg.fresh_tab` makes it `Cfg.fresh` (`fresh0_12_eq`). -/
def freshTab0_12 : ℕ → Bool
  | 0 => true
  | n + 1 => (0x43fffff : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- At the points of case A the printed configuration (`Cfg.idle`) calls output 12 idle: the case stores nothing into it. -/
theorem idleAt0_12_A : ∀ t : Fin cfg0.N, cond0_0 (grid0.coords t) → cond0_1 (grid0.coords t) → cond0_2 (grid0.coords t) → cond0_3 (grid0.coords t) → ¬cond0_4 (grid0.coords t) → cfg0.idle 12 (grid0.coords t) = true :=
  fun t h0 h1 h2 h3 h4 => (by decide +kernel : ∀ t : Fin cfg0.N, conds0_A (grid0.coords t) → cfg0.idle 12 (grid0.coords t) = true) t ⟨h0, h1, h2, h3, h4⟩
/-- At the points of case A the pipeline does not write output 12's block back. -/
theorem noFlush0_12_A : ∀ t : Fin cfg0.N, cond0_0 (grid0.coords t) → cond0_1 (grid0.coords t) → cond0_2 (grid0.coords t) → cond0_3 (grid0.coords t) → ¬cond0_4 (grid0.coords t) → (cfg0.win 12).flush t = false :=
  fun t h0 h1 h2 h3 h4 => (by decide +kernel : ∀ t : Fin cfg0.N, conds0_A (grid0.coords t) → (cfg0.win 12).flush t = false) t ⟨h0, h1, h2, h3, h4⟩
/-- At the points of case B the printed configuration (`Cfg.idle`) calls output 12 idle: the case stores nothing into it. -/
theorem idleAt0_12_B : ∀ t : Fin cfg0.N, cond0_0 (grid0.coords t) → cond0_1 (grid0.coords t) → ¬cond0_2 (grid0.coords t) → cond0_3 (grid0.coords t) → ¬cond0_4 (grid0.coords t) → cfg0.idle 12 (grid0.coords t) = true :=
  fun t h0 h1 h2 h3 h4 => (by decide +kernel : ∀ t : Fin cfg0.N, conds0_B (grid0.coords t) → cfg0.idle 12 (grid0.coords t) = true) t ⟨h0, h1, h2, h3, h4⟩
/-- At the points of case B the pipeline does not write output 12's block back. -/
theorem noFlush0_12_B : ∀ t : Fin cfg0.N, cond0_0 (grid0.coords t) → cond0_1 (grid0.coords t) → ¬cond0_2 (grid0.coords t) → cond0_3 (grid0.coords t) → ¬cond0_4 (grid0.coords t) → (cfg0.win 12).flush t = false :=
  fun t h0 h1 h2 h3 h4 => (by decide +kernel : ∀ t : Fin cfg0.N, conds0_B (grid0.coords t) → (cfg0.win 12).flush t = false) t ⟨h0, h1, h2, h3, h4⟩
/-- At the points of case C the printed configuration (`Cfg.idle`) calls output 12 idle: the case stores nothing into it. -/
theorem idleAt0_12_C : ∀ t : Fin cfg0.N, cond0_0 (grid0.coords t) → cond0_1 (grid0.coords t) → ¬cond0_2 (grid0.coords t) → ¬cond0_3 (grid0.coords t) → ¬cond0_4 (grid0.coords t) → cfg0.idle 12 (grid0.coords t) = true :=
  fun t h0 h1 h2 h3 h4 => (by decide +kernel : ∀ t : Fin cfg0.N, conds0_C (grid0.coords t) → cfg0.idle 12 (grid0.coords t) = true) t ⟨h0, h1, h2, h3, h4⟩
/-- At the points of case C the pipeline does not write output 12's block back. -/
theorem noFlush0_12_C : ∀ t : Fin cfg0.N, cond0_0 (grid0.coords t) → cond0_1 (grid0.coords t) → ¬cond0_2 (grid0.coords t) → ¬cond0_3 (grid0.coords t) → ¬cond0_4 (grid0.coords t) → (cfg0.win 12).flush t = false :=
  fun t h0 h1 h2 h3 h4 => (by decide +kernel : ∀ t : Fin cfg0.N, conds0_C (grid0.coords t) → (cfg0.win 12).flush t = false) t ⟨h0, h1, h2, h3, h4⟩
/-- At the points of case D the printed configuration (`Cfg.idle`) calls output 12 live: the case stores into it. -/
theorem liveAt0_12_D : ∀ t : Fin cfg0.N, ¬cond0_0 (grid0.coords t) → ¬cond0_1 (grid0.coords t) → ¬cond0_2 (grid0.coords t) → ¬cond0_3 (grid0.coords t) → cond0_4 (grid0.coords t) → cond0_5 (grid0.coords t) → cfg0.idle 12 (grid0.coords t) = false :=
  fun t h0 h1 h2 h3 h4 h5 => (by decide +kernel : ∀ t : Fin cfg0.N, conds0_D (grid0.coords t) → cfg0.idle 12 (grid0.coords t) = false) t ⟨h0, h1, h2, h3, h4, h5⟩
/-- At the points of case E the printed configuration (`Cfg.idle`) calls output 12 idle: the case stores nothing into it. -/
theorem idleAt0_12_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → cfg0.idle 12 (grid0.coords t) = true :=
  fun t h0 h1 h2 h3 h4 h5 => (by decide +kernel : ∀ t : Fin cfg0.N, conds0_E (grid0.coords t) → cfg0.idle 12 (grid0.coords t) = true) t ⟨h0, h1, h2, h3, h4, h5⟩
/-! ## The kernel body on any staging memrefs: a subtype the run finds -/

/-- One staging buffer of output window 10, through which its contents are stated (`View.read_writes_of_cover`: the
    choice does not matter). -/
abbrev VO0_10 : View sig .tc .vmem S512x1024 .f32 := (Memref.whole cc0_stg10_0 : Memref sig .tc .vmem S512x1024 .f32).view
/-- One staging buffer of output window 11, through which its contents are stated (`View.read_writes_of_cover`: the
    choice does not matter). -/
abbrev VO0_11 : View sig .tc .vmem S64x5632 .bf16 := (Memref.whole cc0_stg11_0 : Memref sig .tc .vmem S64x5632 .bf16).view
/-- One staging buffer of output window 12, through which its contents are stated (`View.read_writes_of_cover`: the
    choice does not matter). -/
abbrev VO0_12 : View sig .tc .vmem S8x512 .f32 := (Memref.whole cc0_stg12_0 : Memref sig .tc .vmem S8x512 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x5632 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x5632 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x512 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S8x3072 .f32 := Memref.whole cc0_scratch2
abbrev scM0_3 : Memref sig .tc .vmem S8x1024 .f32 := Memref.whole cc0_scratch3
/-- The scratch `arg14` the kernel carries between points, as a view: what it holds is stated through it. -/
abbrev VS0_0 : View sig .tc .vmem S1024x5632 .bf16 := scM0_0.view
/-- The scratch `arg15` the kernel carries between points, as a view: what it holds is stated through it. -/
abbrev VS0_1 : View sig .tc .vmem S2816x1024 .bf16 := scM0_1.view
/-- The scratch `arg16` the kernel carries between points, as a view: what it holds is stated through it. -/
abbrev VS0_2 : View sig .tc .vmem S8x3072 .f32 := scM0_2.view
/-- The scratch `arg17` the kernel carries between points, as a view: what it holds is stated through it. -/
abbrev VS0_3 : View sig .tc .vmem S8x1024 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.FfnIdeal.Hand

end
-- ==== Proof.FfnHand.RunA.lean ====
/- The run of the program FfnIdeal, case by case: part RunA. -/
module

public import proofs.«01_k».proof.Proof.FfnHand.Runs

@[expose] public section

-- membership in a rectangle of production extents (`View.cover_of_tiled`): the elaborator's structural look
-- recurses once per coordinate of the long axes
set_option maxRecDepth 16384

noncomputable section

namespace Cert.FfnIdeal.Hand

open Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken, `scf.if` 3 taken, `scf.if` 4 not taken: points 0), WITH the
    proof that on whole staging memrefs — the inputs' at their contents, the outputs it leaves idle (10, 11, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S6x1024 .f32) (harg3 : arg3.IsWhole) (arg4 : Memref sig .tc .vmem S1024x512 .f32) (harg4 : arg4.IsWhole) (arg5 : Memref sig .tc .vmem S256x1024 .f32) (harg5 : arg5.IsWhole) (arg6 : Memref sig .tc .vmem S64x5632 .f32) (harg6 : arg6.IsWhole) (arg7 : Memref sig .tc .vmem S1x1024 .f32) (harg7 : arg7.IsWhole) (arg8 : Memref sig .tc .vmem S2x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x1024 .f32) (harg11 : arg11.IsWhole) (arg12 : Memref sig .tc .vmem S64x5632 .bf16) (harg12 : arg12.IsWhole) (arg13 : Memref sig .tc .vmem S8x512 .f32) (harg13 : arg13.IsWhole) (arg14 : Memref sig .tc .vmem S1024x5632 .bf16) (harg14 : arg14.IsWhole) (arg15 : Memref sig .tc .vmem S2816x1024 .bf16) (harg15 : arg15.IsWhole) (arg16 : Memref sig .tc .vmem S8x3072 .f32) (harg16 : arg16.IsWhole) (arg17 : Memref sig .tc .vmem S8x1024 .f32) (harg17 : arg17.IsWhole) (hc0 : cond0_0 i) (hc1 : cond0_1 i) (hc2 : cond0_2 i) (hc3 : cond0_3 i) (hc4 : ¬cond0_4 i)
    (x0 : Vec F S512x1024 .f32) (x1 : Vec F S512x1024 .f32) (x2 : Vec F S6x1024 .f32) (x3 : Vec F S1024x512 .f32) (x4 : Vec F S256x1024 .f32) (x5 : Vec F S64x5632 .f32) (x6 : Vec F S1x1024 .f32) (x7 : Vec F S2x1024 .f32) (x8 : Vec F S1024x512 .f32) (x9 : Vec F S1x512 .f32) :
    Σ' (L10 : List (View.Piece (Elt F) S512x1024 .f32)), Σ' (L11 : List (View.Piece (Elt F) S64x5632 .bf16)), Σ' (L12 : List (View.Piece (Elt F) S8x512 .f32)), Σ' (LS0 : List (View.Piece (Elt F) S1024x5632 .bf16)), Σ' (LS1 : List (View.Piece (Elt F) S2816x1024 .bf16)), Σ' (LS2 : List (View.Piece (Elt F) S8x3072 .f32)), { LS3 : List (View.Piece (Elt F) S8x1024 .f32) //
      ∀ (xi10 : Vec F S512x1024 .f32) (xi11 : Vec F S64x5632 .bf16) (xi12 : Vec F S8x512 .f32) (xs0 : Vec F S1024x5632 .bf16) (xs1 : Vec F S2816x1024 .bf16) (xs2 : Vec F S8x3072 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ owns (c : Thread nD τ) arg14 fullShare xs0 ∗ owns (c : Thread nD τ) arg15 fullShare xs1 ∗ owns (c : Thread nD τ) arg16 fullShare xs2 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ (arg14.view.loc (c : Thread nD τ) ↦[arg14.view.set]{fullShare} arg14.view.writes (Elt F) (harg14.unread xs0) LS0) ∗ (arg15.view.loc (c : Thread nD τ) ↦[arg15.view.set]{fullShare} arg15.view.writes (Elt F) (harg15.unread xs1) LS1) ∗ (arg16.view.loc (c : Thread nD τ) ↦[arg16.view.set]{fullShare} arg16.view.writes (Elt F) (harg16.unread xs2) LS2) ∗ (∃ f, arg17.view.loc (c : Thread nD τ) ↦[arg17.view.set]{fullShare} arg17.view.writes (Elt F) f LS3)) -∗ K ⟨⟩))
          ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], [], ?_, ?_, ?_, ?_, fun xi10 xi11 xi12 xs0 xs1 xs2 E K => ?run⟩
  case run =>
    simp only [cc0_ffn1_eq_skeleton]; unfold cc0_ffn1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1; obtain rfl := harg16.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexact HS0
    isplitl [HS1]; · iexact HS1
    isplitl [HS2]; · iexact HS2
    iexists _; iexact HS3

end Cert.FfnIdeal.Hand

end
-- ==== Proof.FfnHand.RunB.lean ====
/- The run of the program FfnIdeal, case by case: part RunB. -/
module

public import proofs.«01_k».proof.Proof.FfnHand.Runs

@[expose] public section

-- membership in a rectangle of production extents (`View.cover_of_tiled`): the elaborator's structural look
-- recurses once per coordinate of the long axes
set_option maxRecDepth 16384

noncomputable section

namespace Cert.FfnIdeal.Hand

open Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken, `scf.if` 1 taken, `scf.if` 2 not taken, `scf.if` 3 taken, `scf.if` 4 not taken: points 1, 2, 3, 4, 5), WITH the
    proof that on whole staging memrefs — the inputs' at their contents, the outputs it leaves idle (10, 11, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S6x1024 .f32) (harg3 : arg3.IsWhole) (arg4 : Memref sig .tc .vmem S1024x512 .f32) (harg4 : arg4.IsWhole) (arg5 : Memref sig .tc .vmem S256x1024 .f32) (harg5 : arg5.IsWhole) (arg6 : Memref sig .tc .vmem S64x5632 .f32) (harg6 : arg6.IsWhole) (arg7 : Memref sig .tc .vmem S1x1024 .f32) (harg7 : arg7.IsWhole) (arg8 : Memref sig .tc .vmem S2x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x1024 .f32) (harg11 : arg11.IsWhole) (arg12 : Memref sig .tc .vmem S64x5632 .bf16) (harg12 : arg12.IsWhole) (arg13 : Memref sig .tc .vmem S8x512 .f32) (harg13 : arg13.IsWhole) (arg14 : Memref sig .tc .vmem S1024x5632 .bf16) (harg14 : arg14.IsWhole) (arg15 : Memref sig .tc .vmem S2816x1024 .bf16) (harg15 : arg15.IsWhole) (arg16 : Memref sig .tc .vmem S8x3072 .f32) (harg16 : arg16.IsWhole) (arg17 : Memref sig .tc .vmem S8x1024 .f32) (harg17 : arg17.IsWhole) (hc0 : cond0_0 i) (hc1 : cond0_1 i) (hc2 : ¬cond0_2 i) (hc3 : cond0_3 i) (hc4 : ¬cond0_4 i)
    (x0 : Vec F S512x1024 .f32) (x1 : Vec F S512x1024 .f32) (x2 : Vec F S6x1024 .f32) (x3 : Vec F S1024x512 .f32) (x4 : Vec F S256x1024 .f32) (x5 : Vec F S64x5632 .f32) (x6 : Vec F S1x1024 .f32) (x7 : Vec F S2x1024 .f32) (x8 : Vec F S1024x512 .f32) (x9 : Vec F S1x512 .f32) (xs3 : Vec F S8x1024 .f32) :
    Σ' (L10 : List (View.Piece (Elt F) S512x1024 .f32)), Σ' (L11 : List (View.Piece (Elt F) S64x5632 .bf16)), Σ' (L12 : List (View.Piece (Elt F) S8x512 .f32)), Σ' (LS0 : List (View.Piece (Elt F) S1024x5632 .bf16)), Σ' (LS1 : List (View.Piece (Elt F) S2816x1024 .bf16)), Σ' (LS2 : List (View.Piece (Elt F) S8x3072 .f32)), { LS3 : List (View.Piece (Elt F) S8x1024 .f32) //
      ∀ (xi10 : Vec F S512x1024 .f32) (xi11 : Vec F S64x5632 .bf16) (xi12 : Vec F S8x512 .f32) (xs0 : Vec F S1024x5632 .bf16) (xs1 : Vec F S2816x1024 .bf16) (xs2 : Vec F S8x3072 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ (arg14.view.loc (c : Thread nD τ) ↦[arg14.view.set]{fullShare} arg14.view.writes (Elt F) (harg14.unread xs0) LS0) ∗ (arg15.view.loc (c : Thread nD τ) ↦[arg15.view.set]{fullShare} arg15.view.writes (Elt F) (harg15.unread xs1) LS1) ∗ (arg16.view.loc (c : Thread nD τ) ↦[arg16.view.set]{fullShare} arg16.view.writes (Elt F) (harg16.unread xs2) LS2) ∗ owns (c : Thread nD τ) arg17 fullShare xs3) -∗ K ⟨⟩))
          ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], [], ?_, ?_, ?_, [], fun xi10 xi11 xi12 xs0 xs1 xs2 E K => ?run⟩
  case run =>
    simp only [cc0_ffn1_eq_skeleton]; unfold cc0_ffn1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1; obtain rfl := harg16.eq_unread hfs2; obtain rfl := harg17.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexact HS0
    isplitl [HS1]; · iexact HS1
    isplitl [HS2]; · iexact HS2
    iexists _; isplitr; · ipureintro; exact harg17.read_unread _
    iexact HS3

end Cert.FfnIdeal.Hand

end
-- ==== Proof.FfnHand.RunC.lean ====
/- The run of the program FfnIdeal, case by case: part RunC. -/
module

public import proofs.«01_k».proof.Proof.FfnHand.Runs

@[expose] public section

-- membership in a rectangle of production extents (`View.cover_of_tiled`): the elaborator's structural look
-- recurses once per coordinate of the long axes
set_option maxRecDepth 16384

noncomputable section

namespace Cert.FfnIdeal.Hand

open Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 taken, `scf.if` 1 taken, `scf.if` 2 not taken, `scf.if` 3 not taken, `scf.if` 4 not taken: points 6, 7, 8, 9, 10), WITH the
    proof that on whole staging memrefs — the inputs' at their contents, the outputs it leaves idle (10, 11, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S6x1024 .f32) (harg3 : arg3.IsWhole) (arg4 : Memref sig .tc .vmem S1024x512 .f32) (harg4 : arg4.IsWhole) (arg5 : Memref sig .tc .vmem S256x1024 .f32) (harg5 : arg5.IsWhole) (arg6 : Memref sig .tc .vmem S64x5632 .f32) (harg6 : arg6.IsWhole) (arg7 : Memref sig .tc .vmem S1x1024 .f32) (harg7 : arg7.IsWhole) (arg8 : Memref sig .tc .vmem S2x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x1024 .f32) (harg11 : arg11.IsWhole) (arg12 : Memref sig .tc .vmem S64x5632 .bf16) (harg12 : arg12.IsWhole) (arg13 : Memref sig .tc .vmem S8x512 .f32) (harg13 : arg13.IsWhole) (arg14 : Memref sig .tc .vmem S1024x5632 .bf16) (harg14 : arg14.IsWhole) (arg15 : Memref sig .tc .vmem S2816x1024 .bf16) (harg15 : arg15.IsWhole) (arg16 : Memref sig .tc .vmem S8x3072 .f32) (harg16 : arg16.IsWhole) (arg17 : Memref sig .tc .vmem S8x1024 .f32) (harg17 : arg17.IsWhole) (hc0 : cond0_0 i) (hc1 : cond0_1 i) (hc2 : ¬cond0_2 i) (hc3 : ¬cond0_3 i) (hc4 : ¬cond0_4 i)
    (x0 : Vec F S512x1024 .f32) (x1 : Vec F S512x1024 .f32) (x2 : Vec F S6x1024 .f32) (x3 : Vec F S1024x512 .f32) (x4 : Vec F S256x1024 .f32) (x5 : Vec F S64x5632 .f32) (x6 : Vec F S1x1024 .f32) (x7 : Vec F S2x1024 .f32) (x8 : Vec F S1024x512 .f32) (x9 : Vec F S1x512 .f32) (xs2 : Vec F S8x3072 .f32) (xs3 : Vec F S8x1024 .f32) :
    Σ' (L10 : List (View.Piece (Elt F) S512x1024 .f32)), Σ' (L11 : List (View.Piece (Elt F) S64x5632 .bf16)), Σ' (L12 : List (View.Piece (Elt F) S8x512 .f32)), Σ' (LS0 : List (View.Piece (Elt F) S1024x5632 .bf16)), Σ' (LS1 : List (View.Piece (Elt F) S2816x1024 .bf16)), Σ' (LS2 : List (View.Piece (Elt F) S8x3072 .f32)), { LS3 : List (View.Piece (Elt F) S8x1024 .f32) //
      ∀ (xi10 : Vec F S512x1024 .f32) (xi11 : Vec F S64x5632 .bf16) (xi12 : Vec F S8x512 .f32) (xs0 : Vec F S1024x5632 .bf16) (xs1 : Vec F S2816x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xi11 ∗ owns (c : Thread nD τ) arg13 fullShare xi12 ∗ (arg14.view.loc (c : Thread nD τ) ↦[arg14.view.set]{fullShare} arg14.view.writes (Elt F) (harg14.unread xs0) LS0) ∗ (arg15.view.loc (c : Thread nD τ) ↦[arg15.view.set]{fullShare} arg15.view.writes (Elt F) (harg15.unread xs1) LS1) ∗ owns (c : Thread nD τ) arg16 fullShare xs2 ∗ owns (c : Thread nD τ) arg17 fullShare xs3) -∗ K ⟨⟩))
          ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], [], ?_, ?_, [], [], fun xi10 xi11 xi12 xs0 xs1 E K => ?run⟩
  case run =>
    simp only [cc0_ffn1_eq_skeleton]; unfold cc0_ffn1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1; obtain rfl := harg16.eq_unread hfs2; obtain rfl := harg17.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexact HS0
    isplitl [HS1]; · iexact HS1
    isplitl [HS2]
    · iexists _; isplitr; · ipureintro; exact harg16.read_unread _
      iexact HS2
    iexists _; isplitr; · ipureintro; exact harg17.read_unread _
    iexact HS3

end Cert.FfnIdeal.Hand

end
-- ==== Proof.FfnHand.RunD.lean ====
/- The run of the program FfnIdeal, case by case: part RunD. -/
module

public import proofs.«01_k».proof.Proof.FfnHand.Runs

@[expose] public section

-- membership in a rectangle of production extents (`View.cover_of_tiled`): the elaborator's structural look
-- recurses once per coordinate of the long axes
set_option maxRecDepth 16384

noncomputable section

namespace Cert.FfnIdeal.Hand

open Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE D (`scf.if` 0 not taken, `scf.if` 1 not taken, `scf.if` 2 not taken, `scf.if` 3 not taken, `scf.if` 4 taken, `scf.if` 5 taken: points 11, 12, … 22: 12 of 27), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S6x1024 .f32) (harg3 : arg3.IsWhole) (arg4 : Memref sig .tc .vmem S1024x512 .f32) (harg4 : arg4.IsWhole) (arg5 : Memref sig .tc .vmem S256x1024 .f32) (harg5 : arg5.IsWhole) (arg6 : Memref sig .tc .vmem S64x5632 .f32) (harg6 : arg6.IsWhole) (arg7 : Memref sig .tc .vmem S1x1024 .f32) (harg7 : arg7.IsWhole) (arg8 : Memref sig .tc .vmem S2x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x1024 .f32) (harg11 : arg11.IsWhole) (arg12 : Memref sig .tc .vmem S64x5632 .bf16) (harg12 : arg12.IsWhole) (arg13 : Memref sig .tc .vmem S8x512 .f32) (harg13 : arg13.IsWhole) (arg14 : Memref sig .tc .vmem S1024x5632 .bf16) (harg14 : arg14.IsWhole) (arg15 : Memref sig .tc .vmem S2816x1024 .bf16) (harg15 : arg15.IsWhole) (arg16 : Memref sig .tc .vmem S8x3072 .f32) (harg16 : arg16.IsWhole) (arg17 : Memref sig .tc .vmem S8x1024 .f32) (harg17 : arg17.IsWhole) (hc0 : ¬cond0_0 i) (hc1 : ¬cond0_1 i) (hc2 : ¬cond0_2 i) (hc3 : ¬cond0_3 i) (hc4 : cond0_4 i) (hc5 : cond0_5 i)
    (x0 : Vec F S512x1024 .f32) (x1 : Vec F S512x1024 .f32) (x2 : Vec F S6x1024 .f32) (x3 : Vec F S1024x512 .f32) (x4 : Vec F S256x1024 .f32) (x5 : Vec F S64x5632 .f32) (x6 : Vec F S1x1024 .f32) (x7 : Vec F S2x1024 .f32) (x8 : Vec F S1024x512 .f32) (x9 : Vec F S1x512 .f32) (xs0 : Vec F S1024x5632 .bf16) (xs1 : Vec F S2816x1024 .bf16) (xs2 : Vec F S8x3072 .f32) (xs3 : Vec F S8x1024 .f32) :
    Σ' (L10 : List (View.Piece (Elt F) S512x1024 .f32)), Σ' (L11 : List (View.Piece (Elt F) S64x5632 .bf16)), Σ' (L12 : List (View.Piece (Elt F) S8x512 .f32)), Σ' (LS0 : List (View.Piece (Elt F) S1024x5632 .bf16)), Σ' (LS1 : List (View.Piece (Elt F) S2816x1024 .bf16)), Σ' (LS2 : List (View.Piece (Elt F) S8x3072 .f32)), { LS3 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xs0 ∗ owns (c : Thread nD τ) arg15 fullShare xs1 ∗ owns (c : Thread nD τ) arg16 fullShare xs2 ∗ owns (c : Thread nD τ) arg17 fullShare xs3) -∗ K ⟨⟩))
          ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, [], [], [], [], fun E K => ?run⟩
  case run =>
    simp only [cc0_ffn1_eq_skeleton]; unfold cc0_ffn1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1; obtain rfl := harg16.eq_unread hfs2; obtain rfl := harg17.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    iexists _; isplitr; · ipureintro; exact harg17.read_unread _
    iexact HS3

end Cert.FfnIdeal.Hand

end
-- ==== Proof.FfnHand.RunE.lean ====
/- The run of the program FfnIdeal, case by case: part RunE. -/
module

public import proofs.«01_k».proof.Proof.FfnHand.Runs

@[expose] public section

-- membership in a rectangle of production extents (`View.cover_of_tiled`): the elaborator's structural look
-- recurses once per coordinate of the long axes
set_option maxRecDepth 16384

noncomputable section

namespace Cert.FfnIdeal.Hand

open Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE E (`scf.if` 0 not taken, `scf.if` 1 not taken, `scf.if` 2 not taken, `scf.if` 3 not taken, `scf.if` 4 taken, `scf.if` 5 not taken: points 23, 24, 25, 26), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S6x1024 .f32) (harg3 : arg3.IsWhole) (arg4 : Memref sig .tc .vmem S1024x512 .f32) (harg4 : arg4.IsWhole) (arg5 : Memref sig .tc .vmem S256x1024 .f32) (harg5 : arg5.IsWhole) (arg6 : Memref sig .tc .vmem S64x5632 .f32) (harg6 : arg6.IsWhole) (arg7 : Memref sig .tc .vmem S1x1024 .f32) (harg7 : arg7.IsWhole) (arg8 : Memref sig .tc .vmem S2x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x1024 .f32) (harg11 : arg11.IsWhole) (arg12 : Memref sig .tc .vmem S64x5632 .bf16) (harg12 : arg12.IsWhole) (arg13 : Memref sig .tc .vmem S8x512 .f32) (harg13 : arg13.IsWhole) (arg14 : Memref sig .tc .vmem S1024x5632 .bf16) (harg14 : arg14.IsWhole) (arg15 : Memref sig .tc .vmem S2816x1024 .bf16) (harg15 : arg15.IsWhole) (arg16 : Memref sig .tc .vmem S8x3072 .f32) (harg16 : arg16.IsWhole) (arg17 : Memref sig .tc .vmem S8x1024 .f32) (harg17 : arg17.IsWhole) (hc0 : ¬cond0_0 i) (hc1 : ¬cond0_1 i) (hc2 : ¬cond0_2 i) (hc3 : ¬cond0_3 i) (hc4 : cond0_4 i) (hc5 : ¬cond0_5 i)
    (x0 : Vec F S512x1024 .f32) (x1 : Vec F S512x1024 .f32) (x2 : Vec F S6x1024 .f32) (x3 : Vec F S1024x512 .f32) (x4 : Vec F S256x1024 .f32) (x5 : Vec F S64x5632 .f32) (x6 : Vec F S1x1024 .f32) (x7 : Vec F S2x1024 .f32) (x8 : Vec F S1024x512 .f32) (x9 : Vec F S1x512 .f32) (xs0 : Vec F S1024x5632 .bf16) (xs1 : Vec F S2816x1024 .bf16) (xs2 : Vec F S8x3072 .f32) (xs3 : Vec F S8x1024 .f32) :
    Σ' (L10 : List (View.Piece (Elt F) S512x1024 .f32)), Σ' (L11 : List (View.Piece (Elt F) S64x5632 .bf16)), Σ' (L12 : List (View.Piece (Elt F) S8x512 .f32)), Σ' (LS0 : List (View.Piece (Elt F) S1024x5632 .bf16)), Σ' (LS1 : List (View.Piece (Elt F) S2816x1024 .bf16)), Σ' (LS2 : List (View.Piece (Elt F) S8x3072 .f32)), { LS3 : List (View.Piece (Elt F) S8x1024 .f32) //
      ∀ (xi12 : Vec F S8x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xi12 ∗ owns (c : Thread nD τ) arg14 fullShare xs0 ∗ owns (c : Thread nD τ) arg15 fullShare xs1 ∗ owns (c : Thread nD τ) arg16 fullShare xs2 ∗ owns (c : Thread nD τ) arg17 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xi12 ∗ owns (c : Thread nD τ) arg14 fullShare xs0 ∗ owns (c : Thread nD τ) arg15 fullShare xs1 ∗ owns (c : Thread nD τ) arg16 fullShare xs2 ∗ owns (c : Thread nD τ) arg17 fullShare xs3) -∗ K ⟨⟩))
          ⊢ wp frame (wpE (defs₀ (F := F)) Variants.none c none) E (cc0_ffn1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], [], [], [], fun xi12 E K => ?run⟩
  case run =>
    simp only [cc0_ffn1_eq_skeleton]; unfold cc0_ffn1_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12; obtain rfl := harg14.eq_unread hfs0; obtain rfl := harg15.eq_unread hfs1; obtain rfl := harg16.eq_unread hfs2; obtain rfl := harg17.eq_unread hfs3
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]
    · iexists _; isplitr; · ipureintro; exact harg13.read_unread _
      iexact H12
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    iexists _; isplitr; · ipureintro; exact harg17.read_unread _
    iexact HS3

end Cert.FfnIdeal.Hand

end
-- ==== Proof.FfnHand.Outs.lean ====
/- What the body leaves at a point of each case, in terms of the blocks it is handed. -/
module

public import proofs.«01_k».proof.Proof.FfnHand.RunA
public import proofs.«01_k».proof.Proof.FfnHand.RunB
public import proofs.«01_k».proof.Proof.FfnHand.RunC
public import proofs.«01_k».proof.Proof.FfnHand.RunD
public import proofs.«01_k».proof.Proof.FfnHand.RunE
public import Idealize.ShloMosaic.Lib.WritesUnit
public import Idealize.ShloMosaic.Lib.Pipeline.Value

@[expose] public section

set_option maxRecDepth 16384

noncomputable section

namespace Cert.FfnIdeal.Hand

open Cert.FfnIdeal.Gen Idealize.ShloMosaic Idealize.ShloMosaic.TcCoe Idealize.ShloMosaic.Tactic
open Idealize.SL Idealize.SL.Sem

variable {F : FTy → Type} [FloatOps F]

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S6x1024 .f32) (harg3 : arg3.IsWhole) (arg4 : Memref sig .tc .vmem S1024x512 .f32) (harg4 : arg4.IsWhole) (arg5 : Memref sig .tc .vmem S256x1024 .f32) (harg5 : arg5.IsWhole) (arg6 : Memref sig .tc .vmem S64x5632 .f32) (harg6 : arg6.IsWhole) (arg7 : Memref sig .tc .vmem S1x1024 .f32) (harg7 : arg7.IsWhole) (arg8 : Memref sig .tc .vmem S2x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x1024 .f32) (harg11 : arg11.IsWhole) (arg12 : Memref sig .tc .vmem S64x5632 .bf16) (harg12 : arg12.IsWhole) (arg13 : Memref sig .tc .vmem S8x512 .f32) (harg13 : arg13.IsWhole) (arg14 : Memref sig .tc .vmem S1024x5632 .bf16) (harg14 : arg14.IsWhole) (arg15 : Memref sig .tc .vmem S2816x1024 .bf16) (harg15 : arg15.IsWhole) (arg16 : Memref sig .tc .vmem S8x3072 .f32) (harg16 : arg16.IsWhole) (arg17 : Memref sig .tc .vmem S8x1024 .f32) (harg17 : arg17.IsWhole)
  (x0 : Vec F S512x1024 .f32) (x1 : Vec F S512x1024 .f32) (x2 : Vec F S6x1024 .f32) (x3 : Vec F S1024x512 .f32) (x4 : Vec F S256x1024 .f32) (x5 : Vec F S64x5632 .f32) (x6 : Vec F S1x1024 .f32) (x7 : Vec F S2x1024 .f32) (x8 : Vec F S1024x512 .f32) (x9 : Vec F S1x512 .f32)
  (xs0 : Vec F S1024x5632 .bf16) (xs1 : Vec F S2816x1024 .bf16) (xs2 : Vec F S8x3072 .f32) (xs3 : Vec F S8x1024 .f32)

/-- The zero offsets of a rank-2 load. -/
theorem zero2 : (![0, 0] : Fin 2 → ℕ) = fun _ => 0 := by decide

/-- A load of the whole of a 512x1024 block is the block. -/
theorem ld_512x1024 {e : EltTy} (x : Vec F S512x1024 e) (h) : View.ld x (Rect.unit (s := S512x1024) ![0, 0] ![512, 1024] h) = x :=
  View.ld_unit_zero zero2 h x

/-- A load of the whole of a 1024x512 block is the block. -/
theorem ld_1024x512 {e : EltTy} (x : Vec F S1024x512 e) (h) : View.ld x (Rect.unit (s := S1024x512) ![0, 0] ![1024, 512] h) = x :=
  View.ld_unit_zero zero2 h x

/-- A load of the whole of a 256x1024 block is the block. -/
theorem ld_256x1024 {e : EltTy} (x : Vec F S256x1024 e) (h) : View.ld x (Rect.unit (s := S256x1024) ![0, 0] ![256, 1024] h) = x :=
  View.ld_unit_zero zero2 h x

/-- A load of the whole of a 64x5632 block is the block. -/
theorem ld_64x5632 {e : EltTy} (x : Vec F S64x5632 e) (h) : View.ld x (Rect.unit (s := S64x5632) ![0, 0] ![64, 5632] h) = x :=
  View.ld_unit_zero zero2 h x

/-- A load of the whole of a 1x1024 block is the block. -/
theorem ld_1x1024 {e : EltTy} (x : Vec F S1x1024 e) (h) : View.ld x (Rect.unit (s := S1x1024) ![0, 0] ![1, 1024] h) = x :=
  View.ld_unit_zero zero2 h x

/-- A load of the whole of a 2x1024 block is the block. -/
theorem ld_2x1024 {e : EltTy} (x : Vec F S2x1024 e) (h) : View.ld x (Rect.unit (s := S2x1024) ![0, 0] ![2, 1024] h) = x :=
  View.ld_unit_zero zero2 h x

/-- A load of the whole of a 8x1024 block is the block. -/
theorem ld_8x1024 {e : EltTy} (x : Vec F S8x1024 e) (h) : View.ld x (Rect.unit (s := S8x1024) ![0, 0] ![8, 1024] h) = x :=
  View.ld_unit_zero zero2 h x

/-- A load of the whole of a 1x512 block is the block. -/
theorem ld_1x512 {e : EltTy} (x : Vec F S1x512 e) (h) : View.ld x (Rect.unit (s := S1x512) ![0, 0] ![1, 512] h) = x :=
  View.ld_unit_zero zero2 h x

/-- A load of the whole of a 1024x5632 block is the block. -/
theorem ld_1024x5632 {e : EltTy} (x : Vec F S1024x5632 e) (h) : View.ld x (Rect.unit (s := S1024x5632) ![0, 0] ![1024, 5632] h) = x :=
  View.ld_unit_zero zero2 h x

/-- A load of the whole of a 2816x1024 block is the block. -/
theorem ld_2816x1024 {e : EltTy} (x : Vec F S2816x1024 e) (h) : View.ld x (Rect.unit (s := S2816x1024) ![0, 0] ![2816, 1024] h) = x :=
  View.ld_unit_zero zero2 h x

/-- The first weight's array with its point's chunk of 512 columns replaced by the cast of the block. -/
def put14 (i : grid0.Coords) (s : Vec F S1024x5632 .bf16) (x : Vec F S1024x512 .f32) : Vec F S1024x5632 .bf16 := fun y =>
  if h : ∀ a, k0_off1 i a ≤ (y a).val ∧ (y a).val < k0_off1 i a + S1024x512.size a then
    k0_pay1 x (Rect.unitLocal (s := S1024x5632) (off := k0_off1 i) (size := S1024x512.size) y h) else s y

/-- The second weight's array with its point's chunk of 256 rows replaced by the cast of the block. -/
def put15 (i : grid0.Coords) (s : Vec F S2816x1024 .bf16) (x : Vec F S256x1024 .f32) : Vec F S2816x1024 .bf16 := fun y =>
  if h : ∀ a, k0_off2 i a ≤ (y a).val ∧ (y a).val < k0_off2 i a + S256x1024.size a then
    k0_pay2 x (Rect.unitLocal (s := S2816x1024) (off := k0_off2 i) (size := S256x1024.size) y h) else s y

/-- The modulation rows with their point's chunk of 512 columns replaced by the payload `w`. -/
def put16 (i : grid0.Coords) (s : Vec F S8x3072 .f32) (w : Vec F S8x512 .f32) : Vec F S8x3072 .f32 := fun y =>
  if h : ∀ a, k0_off3 i a ≤ (y a).val ∧ (y a).val < k0_off3 i a + S8x512.size a then
    w (Rect.unitLocal (s := S8x3072) (off := k0_off3 i) (size := S8x512.size) y h) else s y

/-- The stores that fill the activated condition rows: the context row, the two rows of `c`, and zeros below. -/
def actPieces (x6 : Vec F S1x1024 .f32) (x7 : Vec F S2x1024 .f32) : List (View.Piece (Elt F) S8x1024 .f32) :=
  [⟨Rect.unit (s := S8x1024) ![3, 0] S5x1024.size inb_S8x1024_S5x1024_3_0, k0_pay5⟩,
   ⟨Rect.unit (s := S8x1024) ![1, 0] S2x1024.size inb_S8x1024_S2x1024_1_0, k0_pay4 x7⟩,
   ⟨Rect.unit (s := S8x1024) ![0, 0] S1x1024.size inb_S8x1024_S1x1024_0_0, k0_pay3 x6⟩]

/-- The activated condition rows. -/
def actRows (x6 : Vec F S1x1024 .f32) (x7 : Vec F S2x1024 .f32) : Vec F S8x1024 .f32 := View.canon (actPieces x6 x7)

/-- The stores of the activated rows cover them. -/
theorem act_cover (x6 : Vec F S1x1024 .f32) (x7 : Vec F S2x1024 .f32) (y : S8x1024.Idx) : ∃ pc ∈ actPieces x6 x7, y ∈ pc.1.set :=
  View.cover_of_tiledBy (actPieces x6 x7) ![1, 1024] (by sl_kernel_rfl) y

/-- A load of the whole of the condition rows' array after those stores reads the activated rows. -/
theorem read_act (arg17 : Memref sig .tc .vmem S8x1024 .f32) (x6 : Vec F S1x1024 .f32) (x7 : Vec F S2x1024 .f32) :
    arg17.view.readCov (actPieces x6 x7) (Rect.unit (s := S8x1024) ![0, 0] S8x1024.size inb_S8x1024_S8x1024_0_0).toLoadRect = actRows x6 x7 :=
  (View.readCov_eq_canon_ld arg17.view (actPieces x6 x7) _ (act_cover x6 x7)).trans (ld_8x1024 _ _)

/-- The tile of tokens a point past the weights' leaves. -/
def blkX (i : grid0.Coords) (hc4 : cond0_4 i) (x0 x1 : Vec F S512x1024 .f32) (x2 : Vec F S6x1024 .f32)
    (w13 : Vec F S1024x5632 .bf16) (w2 : Vec F S2816x1024 .bf16) (md : Vec F S8x3072 .f32) : Vec F S512x1024 .f32 :=
  k0_pay7 (k0_pay12 (BitVec.ofNat 32 (i 0)) x0 x1)
    (k0_pay15 (k0_pay14 (View.ld md (Rect.unit (s := S8x3072) (k0_off4 i) S1x1024.size (k0_off4_inb i hc4)))
        (View.ld md (Rect.unit (s := S8x3072) (k0_off5 i) S1x1024.size (k0_off5_inb i hc4))) (k0_pay12 (BitVec.ofNat 32 (i 0)) x0 x1)
        (View.ld x2 (Rect.unit (s := S6x1024) ![0, 0] S1x1024.size inb_S6x1024_S1x1024_0_0)) w13) w2)
    (k0_pay16 (View.ld md (Rect.unit (s := S8x3072) (k0_off6 i) S1x1024.size (k0_off6_inb i hc4))) (k0_pay11 (BitVec.ofNat 32 (i 0)) x0 x1)
      (k0_pay13 (View.ld md (Rect.unit (s := S8x3072) (k0_off4 i) S1x1024.size (k0_off4_inb i hc4)))
        (View.ld md (Rect.unit (s := S8x3072) (k0_off5 i) S1x1024.size (k0_off5_inb i hc4))) (k0_pay11 (BitVec.ofNat 32 (i 0)) x0 x1)
        (View.ld x2 (Rect.unit (s := S6x1024) ![0, 0] S1x1024.size inb_S6x1024_S1x1024_0_0)) w13) w2
      (View.ld x2 (Rect.unit (s := S6x1024) ![1, 0] S1x1024.size inb_S6x1024_S1x1024_1_0)))
    (k0_pay17 (View.ld md (Rect.unit (s := S8x3072) (k0_off6 i) S1x1024.size (k0_off6_inb i hc4))))
    (View.ld x2 (Rect.unit (s := S6x1024) ![1, 0] S1x1024.size inb_S6x1024_S1x1024_1_0))
    (k0_pay18 (k0_pay14 (View.ld md (Rect.unit (s := S8x3072) (k0_off4 i) S1x1024.size (k0_off4_inb i hc4)))
        (View.ld md (Rect.unit (s := S8x3072) (k0_off5 i) S1x1024.size (k0_off5_inb i hc4))) (k0_pay12 (BitVec.ofNat 32 (i 0)) x0 x1)
        (View.ld x2 (Rect.unit (s := S6x1024) ![0, 0] S1x1024.size inb_S6x1024_S1x1024_0_0)) w13) w2)
    (Scalar.ofBits .f32 0x358637BD)

/-- Case A leaves scratch `arg14` with its chunk replaced. -/
theorem put14_A (hc0 : cond0_0 i) (hc1 : cond0_1 i) (hc2 : cond0_2 i) (hc3 : cond0_3 i) (hc4 : ¬cond0_4 i) :
    arg14.view.read (Elt F) (arg14.view.writes (Elt F) (harg14.unread xs0) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9).2.2.2.1) = put14 i xs0 x3 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S1024x5632) (off' := k0_off1 i) _ _ _ _ _ _ rfl).trans ?_
  unfold put14
  split
  · rfl
  · exact congrFun (harg14.read_unread xs0) y

/-- Case A leaves scratch `arg15` with its chunk replaced. -/
theorem put15_A (hc0 : cond0_0 i) (hc1 : cond0_1 i) (hc2 : cond0_2 i) (hc3 : cond0_3 i) (hc4 : ¬cond0_4 i) :
    arg15.view.read (Elt F) (arg15.view.writes (Elt F) (harg15.unread xs1) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9).2.2.2.2.1) = put15 i xs1 x4 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S2816x1024) (off' := k0_off2 i) _ _ _ _ _ _ rfl).trans ?_
  unfold put15
  split
  · rfl
  · exact congrFun (harg15.read_unread xs1) y

/-- Case B leaves scratch `arg14` with its chunk replaced. -/
theorem put14_B (hc0 : cond0_0 i) (hc1 : cond0_1 i) (hc2 : ¬cond0_2 i) (hc3 : cond0_3 i) (hc4 : ¬cond0_4 i) :
    arg14.view.read (Elt F) (arg14.view.writes (Elt F) (harg14.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9 xs3).2.2.2.1) = put14 i xs0 x3 := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S1024x5632) (off' := k0_off1 i) _ _ _ _ _ _ rfl).trans ?_
  unfold put14
  split
  · rfl
  · exact congrFun (harg14.read_unread xs0) y

/-- Case B leaves scratch `arg15` with its chunk replaced. -/
theorem put15_B (hc0 : cond0_0 i) (hc1 : cond0_1 i) (hc2 : ¬cond0_2 i) (hc3 : cond0_3 i) (hc4 : ¬cond0_4 i) :
    arg15.view.read (Elt F) (arg15.view.writes (Elt F) (harg15.unread xs1) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9 xs3).2.2.2.2.1) = put15 i xs1 x4 := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S2816x1024) (off' := k0_off2 i) _ _ _ _ _ _ rfl).trans ?_
  unfold put15
  split
  · rfl
  · exact congrFun (harg15.read_unread xs1) y

/-- Case C leaves scratch `arg14` with its chunk replaced. -/
theorem put14_C (hc0 : cond0_0 i) (hc1 : cond0_1 i) (hc2 : ¬cond0_2 i) (hc3 : ¬cond0_3 i) (hc4 : ¬cond0_4 i) :
    arg14.view.read (Elt F) (arg14.view.writes (Elt F) (harg14.unread xs0) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9 xs2 xs3).2.2.2.1) = put14 i xs0 x3 := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S1024x5632) (off' := k0_off1 i) _ _ _ _ _ _ rfl).trans ?_
  unfold put14
  split
  · rfl
  · exact congrFun (harg14.read_unread xs0) y

/-- Case C leaves scratch `arg15` with its chunk replaced. -/
theorem put15_C (hc0 : cond0_0 i) (hc1 : cond0_1 i) (hc2 : ¬cond0_2 i) (hc3 : ¬cond0_3 i) (hc4 : ¬cond0_4 i) :
    arg15.view.read (Elt F) (arg15.view.writes (Elt F) (harg15.unread xs1) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9 xs2 xs3).2.2.2.2.1) = put15 i xs1 x4 := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S2816x1024) (off' := k0_off2 i) _ _ _ _ _ _ rfl).trans ?_
  unfold put15
  split
  · rfl
  · exact congrFun (harg15.read_unread xs1) y

/-- Case A leaves scratch `arg16` with its chunk replaced. -/
theorem put16_A (hc0 : cond0_0 i) (hc1 : cond0_1 i) (hc2 : cond0_2 i) (hc3 : cond0_3 i) (hc4 : ¬cond0_4 i) :
    arg16.view.read (Elt F) (arg16.view.writes (Elt F) (harg16.unread xs2) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9).2.2.2.2.2.1) = put16 i xs2 (k0_pay6 (actRows x6 x7) x8 x9) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S8x3072) (off' := k0_off3 i) _ _ _ _ _ _ rfl).trans ?_
  unfold put16
  split
  · exact congrFun (congrArg (fun a => k0_pay6 a x8 x9) (read_act arg17 x6 x7)) _
  · exact congrFun (harg16.read_unread xs2) y

/-- Case B leaves scratch `arg16` with its chunk replaced. -/
theorem put16_B (hc0 : cond0_0 i) (hc1 : cond0_1 i) (hc2 : ¬cond0_2 i) (hc3 : cond0_3 i) (hc4 : ¬cond0_4 i) :
    arg16.view.read (Elt F) (arg16.view.writes (Elt F) (harg16.unread xs2) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9 xs3).2.2.2.2.2.1) = put16 i xs2 (k0_pay6 xs3 x8 x9) := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  funext y
  refine (View.read_writes_cons_unit (s := S8x3072) (off' := k0_off3 i) _ _ _ _ _ _ rfl).trans ?_
  unfold put16
  split
  · rfl
  · exact congrFun (harg16.read_unread xs2) y

/-- Case A leaves scratch `arg17` with the activated condition rows. -/
theorem act_A (hc0 : cond0_0 i) (hc1 : cond0_1 i) (hc2 : cond0_2 i) (hc3 : cond0_3 i) (hc4 : ¬cond0_4 i) (f : arg17.view.ty.Contents (Elt F)) :
    arg17.view.read (Elt F) (arg17.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 x0 x1 x2 x3 x4 x5 x6 x7 x8 x9).2.2.2.2.2.2.1) = actRows x6 x7 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  exact View.read_writes_eq_canon _ _ _ (act_cover x6 x7)

/-- What case D leaves in the output `arg11`. -/
theorem out11_D (hc0 : ¬cond0_0 i) (hc1 : ¬cond0_1 i) (hc2 : ¬cond0_2 i) (hc3 : ¬cond0_3 i) (hc4 : cond0_4 i) (hc5 : cond0_5 i) (f : arg11.view.ty.Contents (Elt F)) :
    arg11.view.read (Elt F) (arg11.view.writes (Elt F) f (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).1) = blkX i hc4 x0 x1 x2 xs0 xs1 xs2 := by
  rw [View.read_writes_eq_canon _ _ _ (fun y => View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).1 S512x1024.size (by sl_kernel_rfl) y)]
  unfold kernelRun0_D
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  rfl

/-- What case D leaves in the output `arg12`. -/
theorem out12_D (hc0 : ¬cond0_0 i) (hc1 : ¬cond0_1 i) (hc2 : ¬cond0_2 i) (hc3 : ¬cond0_3 i) (hc4 : cond0_4 i) (hc5 : cond0_5 i) (f : arg12.view.ty.Contents (Elt F)) :
    arg12.view.read (Elt F) (arg12.view.writes (Elt F) f (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).2.1) = k0_pay8 x5 := by
  rw [View.read_writes_eq_canon _ _ _ (fun y => View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).2.1 S64x5632.size (by sl_kernel_rfl) y)]
  unfold kernelRun0_D
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]

/-- What case E leaves in the output `arg11`. -/
theorem out11_E (hc0 : ¬cond0_0 i) (hc1 : ¬cond0_1 i) (hc2 : ¬cond0_2 i) (hc3 : ¬cond0_3 i) (hc4 : cond0_4 i) (hc5 : ¬cond0_5 i) (f : arg11.view.ty.Contents (Elt F)) :
    arg11.view.read (Elt F) (arg11.view.writes (Elt F) f (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).1) = blkX i hc4 x0 x1 x2 xs0 xs1 xs2 := by
  rw [View.read_writes_eq_canon _ _ _ (fun y => View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).1 S512x1024.size (by sl_kernel_rfl) y)]
  unfold kernelRun0_E
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]
  rfl

/-- What case E leaves in the output `arg12`. -/
theorem out12_E (hc0 : ¬cond0_0 i) (hc1 : ¬cond0_1 i) (hc2 : ¬cond0_2 i) (hc3 : ¬cond0_3 i) (hc4 : cond0_4 i) (hc5 : ¬cond0_5 i) (f : arg12.view.ty.Contents (Elt F)) :
    arg12.view.read (Elt F) (arg12.view.writes (Elt F) f (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).2.1) = k0_pay8 x5 := by
  rw [View.read_writes_eq_canon _ _ _ (fun y => View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).2.1 S64x5632.size (by sl_kernel_rfl) y)]
  unfold kernelRun0_E
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]

/-- What case D leaves in the output `arg13`. -/
theorem out13_D (hc0 : ¬cond0_0 i) (hc1 : ¬cond0_1 i) (hc2 : ¬cond0_2 i) (hc3 : ¬cond0_3 i) (hc4 : cond0_4 i) (hc5 : cond0_5 i) (f : arg13.view.ty.Contents (Elt F)) :
    arg13.view.read (Elt F) (arg13.view.writes (Elt F) f (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).2.2.1) = k0_pay9 xs3 x8 x9 := by
  rw [View.read_writes_eq_canon _ _ _ (fun y => View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 x7 x8 x9 xs0 xs1 xs2 xs3).2.2.1 S8x512.size (by sl_kernel_rfl) y)]
  unfold kernelRun0_D
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ld_512x1024, ld_1024x512, ld_256x1024, ld_64x5632, ld_1x1024, ld_2x1024, ld_8x1024, ld_1x512, ld_1024x5632, ld_2816x1024]

end Cert.FfnIdeal.Hand

end
-- ==== Proof.FfnHand.Inv.lean ====
/- The contents of the four scratch buffers through the grid, and that each point's stores keep them. -/
module

public import proofs.«01_k».proof.Proof.FfnHand.Outs
public import Idealize.ShloMosaic.Lib.Pointwise

@[expose] public section

set_option maxRecDepth 16384

noncomputable section

namespace Cert.FfnIdeal.Hand

open Cert.FfnIdeal.Gen Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-- The grid point numbered `k`, or the last one. -/
def pt (k : ℕ) : Fin cfg0.N := ⟨min k 26, Nat.lt_of_le_of_lt (Nat.min_le_right _ _) (Nat.lt_of_lt_of_eq (by decide : 26 < 27) N_0.symm)⟩

/-- A point is the one of its number. -/
theorem pt_val (t : Fin cfg0.N) (k : ℕ) (h : k = t.val) : pt k = t := by
  have hN : t.val < 27 := lt_of_lt_of_eq t.isLt (show cfg0.N = 27 from N_0)
  apply Fin.ext
  show min k 26 = t.val
  omega

/-- The activated condition rows, of the windows' blocks. -/
def actM (c : Dev nD) : Vec F S8x1024 .f32 := actRows (iblk m c 6 (pt 0)) (iblk m c 7 (pt 0))

/-- The chunk of modulation columns a point computes. -/
def modCk (c : Dev nD) (t : Fin cfg0.N) : Vec F S8x512 .f32 := k0_pay6 (actM m c) (iblk m c 8 t) (iblk m c 9 t)

/-- The first weight's scratch once filled. -/
def w13M (c : Dev nD) : Vec F S1024x5632 .bf16 := fun y =>
  k0_pay1 (iblk m c 3 (pt ((y 1).val / 512))) (ix2 (⟨(y 0).val, (y 0).isLt⟩ : Fin 1024) (⟨(y 1).val % 512, Nat.mod_lt _ (by decide)⟩ : Fin 512))

/-- The second weight's scratch once filled. -/
def w2M (c : Dev nD) : Vec F S2816x1024 .bf16 := fun y =>
  k0_pay2 (iblk m c 4 (pt ((y 0).val / 256))) (ix2 (⟨(y 0).val % 256, Nat.mod_lt _ (by decide)⟩ : Fin 256) (⟨(y 1).val, (y 1).isLt⟩ : Fin 1024))

/-- The modulation rows' scratch once filled. -/
def modM (c : Dev nD) : Vec F S8x3072 .f32 := fun y =>
  modCk m c (pt ((y 1).val / 512)) (ix2 (⟨(y 0).val, (y 0).isLt⟩ : Fin 8) (⟨(y 1).val % 512, Nat.mod_lt _ (by decide)⟩ : Fin 512))

/-- Where the three chunked stores of a point go. -/
theorem off1_eq : ∀ t : Fin cfg0.N, k0_off1 (grid0.coords t) 0 = 0 ∧ k0_off1 (grid0.coords t) 1 = 512 * t.val :=
  (by decide +kernel : ∀ t : Fin grid0.N, k0_off1 (grid0.coords t) 0 = 0 ∧ k0_off1 (grid0.coords t) 1 = 512 * t.val)
theorem off2_eq : ∀ t : Fin cfg0.N, k0_off2 (grid0.coords t) 0 = 256 * t.val ∧ k0_off2 (grid0.coords t) 1 = 0 :=
  (by decide +kernel : ∀ t : Fin grid0.N, k0_off2 (grid0.coords t) 0 = 256 * t.val ∧ k0_off2 (grid0.coords t) 1 = 0)
theorem off3_eq : ∀ t : Fin cfg0.N, k0_off3 (grid0.coords t) 0 = 0 ∧ k0_off3 (grid0.coords t) 1 = 512 * t.val :=
  (by decide +kernel : ∀ t : Fin grid0.N, k0_off3 (grid0.coords t) 0 = 0 ∧ k0_off3 (grid0.coords t) 1 = 512 * t.val)

/-- A point's store extends the filled part of scratch `arg14` by its chunk. -/
theorem step14 (c : Dev nD) (t : Fin cfg0.N) (s : Vec F S1024x5632 .bf16) (h : ∀ y, (y 1).val < 512 * t.val → s y = w13M m c y) :
    ∀ y, (y 1).val < 512 * (t.val + 1) → put14 (grid0.coords t) s (iblk m c 3 t) y = w13M m c y := by
  intro y hy
  obtain ⟨ho0, ho1⟩ := off1_eq t
  have hl : (y 0).val < 1024 := (y 0).isLt
  unfold put14
  split
  · rename_i hm
    have h1 : k0_off1 (grid0.coords t) 1 ≤ (y 1).val := (hm 1).1
    rw [ho1] at h1
    have e : pt ((y 1).val / 512) = t := pt_val t _ (by omega)
    unfold w13M
    rw [e]
    refine congrArg (k0_pay1 (iblk m c 3 t)) (funext fun a => Fin.ext ?_)
    rw [Rect.unitLocal_val]
    match a with
    | 0 =>
      show (y 0).val - k0_off1 (grid0.coords t) 0 = (y 0).val
      rw [ho0]; omega
    | 1 =>
      show (y 1).val - k0_off1 (grid0.coords t) 1 = (y 1).val % 512
      rw [ho1]; omega
  · rename_i hm
    refine h y (Nat.lt_of_not_le fun hle => hm fun a => ?_)
    match a with
    | 0 =>
      show k0_off1 (grid0.coords t) 0 ≤ (y 0).val ∧ (y 0).val < k0_off1 (grid0.coords t) 0 + 1024
      rw [ho0]; omega
    | 1 =>
      show k0_off1 (grid0.coords t) 1 ≤ (y 1).val ∧ (y 1).val < k0_off1 (grid0.coords t) 1 + 512
      rw [ho1]; omega

/-- A point's store extends the filled part of scratch `arg15` by its chunk. -/
theorem step15 (c : Dev nD) (t : Fin cfg0.N) (s : Vec F S2816x1024 .bf16) (h : ∀ y, (y 0).val < 256 * t.val → s y = w2M m c y) :
    ∀ y, (y 0).val < 256 * (t.val + 1) → put15 (grid0.coords t) s (iblk m c 4 t) y = w2M m c y := by
  intro y hy
  obtain ⟨ho0, ho1⟩ := off2_eq t
  have hl : (y 1).val < 1024 := (y 1).isLt
  unfold put15
  split
  · rename_i hm
    have h1 : k0_off2 (grid0.coords t) 0 ≤ (y 0).val := (hm 0).1
    rw [ho0] at h1
    have e : pt ((y 0).val / 256) = t := pt_val t _ (by omega)
    unfold w2M
    rw [e]
    refine congrArg (k0_pay2 (iblk m c 4 t)) (funext fun a => Fin.ext ?_)
    rw [Rect.unitLocal_val]
    match a with
    | 0 =>
      show (y 0).val - k0_off2 (grid0.coords t) 0 = (y 0).val % 256
      rw [ho0]; omega
    | 1 =>
      show (y 1).val - k0_off2 (grid0.coords t) 1 = (y 1).val
      rw [ho1]; omega
  · rename_i hm
    refine h y (Nat.lt_of_not_le fun hle => hm fun a => ?_)
    match a with
    | 0 =>
      show k0_off2 (grid0.coords t) 0 ≤ (y 0).val ∧ (y 0).val < k0_off2 (grid0.coords t) 0 + 256
      rw [ho0]; omega
    | 1 =>
      show k0_off2 (grid0.coords t) 1 ≤ (y 1).val ∧ (y 1).val < k0_off2 (grid0.coords t) 1 + 1024
      rw [ho1]; omega

/-- A point's store extends the filled part of scratch `arg16` by its chunk. -/
theorem step16 (c : Dev nD) (t : Fin cfg0.N) (s : Vec F S8x3072 .f32) (h : ∀ y, (y 1).val < 512 * t.val → s y = modM m c y) :
    ∀ y, (y 1).val < 512 * (t.val + 1) → put16 (grid0.coords t) s (modCk m c t) y = modM m c y := by
  intro y hy
  obtain ⟨ho0, ho1⟩ := off3_eq t
  have hl : (y 0).val < 8 := (y 0).isLt
  unfold put16
  split
  · rename_i hm
    have h1 : k0_off3 (grid0.coords t) 1 ≤ (y 1).val := (hm 1).1
    rw [ho1] at h1
    have e : pt ((y 1).val / 512) = t := pt_val t _ (by omega)
    unfold modM
    rw [e]
    refine congrArg (modCk m c t) (funext fun a => Fin.ext ?_)
    rw [Rect.unitLocal_val]
    match a with
    | 0 =>
      show (y 0).val - k0_off3 (grid0.coords t) 0 = (y 0).val
      rw [ho0]; omega
    | 1 =>
      show (y 1).val - k0_off3 (grid0.coords t) 1 = (y 1).val % 512
      rw [ho1]; omega
  · rename_i hm
    refine h y (Nat.lt_of_not_le fun hle => hm fun a => ?_)
    match a with
    | 0 =>
      show k0_off3 (grid0.coords t) 0 ≤ (y 0).val ∧ (y 0).val < k0_off3 (grid0.coords t) 0 + 8
      rw [ho0]; omega
    | 1 =>
      show k0_off3 (grid0.coords t) 1 ≤ (y 1).val ∧ (y 1).val < k0_off3 (grid0.coords t) 1 + 512
      rw [ho1]; omega

/-- What the four scratch buffers hold before point `n`: the filled parts of the two weights and of the modulation rows,
    and, once a point has run, the activated condition rows. -/
structure Inv (c : Dev nD) (n : ℕ) (a : Vec F S1024x5632 .bf16) (b : Vec F S2816x1024 .bf16) (d : Vec F S8x3072 .f32) (e : Vec F S8x1024 .f32) : Prop where
  h14 : ∀ y, (y 1).val < 512 * n → a y = w13M m c y
  h15 : ∀ y, (y 0).val < 256 * n → b y = w2M m c y
  h16 : ∀ y, (y 1).val < 512 * n → d y = modM m c y
  h17 : 1 ≤ n → e = actM m c

variable {a : Vec F S1024x5632 .bf16} {b : Vec F S2816x1024 .bf16} {d : Vec F S8x3072 .f32} {e : Vec F S8x1024 .f32}

/-- Before the first point nothing is asked of them. -/
theorem Inv_zero (c : Dev nD) : Inv m c 0 a b d e where
  h14 y h := absurd h (by rw [Nat.mul_zero]; exact Nat.not_lt_zero _)
  h15 y h := absurd h (by rw [Nat.mul_zero]; exact Nat.not_lt_zero _)
  h16 y h := absurd h (by rw [Nat.mul_zero]; exact Nat.not_lt_zero _)
  h17 h := absurd h (by decide)

/-- A point that stores a chunk of each. -/
theorem Inv_store (c : Dev nD) (t : Fin cfg0.N) (h : Inv m c t.val a b d e) :
    Inv m c (t.val + 1) (put14 (grid0.coords t) a (iblk m c 3 t)) (put15 (grid0.coords t) b (iblk m c 4 t)) (put16 (grid0.coords t) d (modCk m c t)) (actM m c) where
  h14 := step14 m c t a h.h14
  h15 := step15 m c t b h.h15
  h16 := step16 m c t d h.h16
  h17 _ := rfl

/-- A point past the modulation's six. -/
theorem Inv_store2 (c : Dev nD) (t : Fin cfg0.N) (ht : 6 ≤ t.val) (h : Inv m c t.val a b d e) :
    Inv m c (t.val + 1) (put14 (grid0.coords t) a (iblk m c 3 t)) (put15 (grid0.coords t) b (iblk m c 4 t)) d e where
  h14 := step14 m c t a h.h14
  h15 := step15 m c t b h.h15
  h16 y _ := h.h16 y (by have hl : (y 1).val < 3072 := (y 1).isLt; omega)
  h17 _ := h.h17 (by omega)

/-- A point past the weights' eleven finds all four filled, -/
theorem Inv_full (c : Dev nD) {n : ℕ} (hn : 11 ≤ n) (h : Inv m c n a b d e) : a = w13M m c ∧ b = w2M m c ∧ d = modM m c ∧ e = actM m c :=
  ⟨funext fun y => h.h14 y (by have hl : (y 1).val < 5632 := (y 1).isLt; omega), funext fun y => h.h15 y (by have hl : (y 0).val < 2816 := (y 0).isLt; omega),
    funext fun y => h.h16 y (by have hl : (y 1).val < 3072 := (y 1).isLt; omega), h.h17 (by omega)⟩

/-- and leaves them so. -/
theorem Inv_keep (c : Dev nD) {n : ℕ} (hn : 11 ≤ n) (h : Inv m c n a b d e) : Inv m c (n + 1) a b d e where
  h14 y _ := congrFun (Inv_full m c hn h).1 y
  h15 y _ := congrFun (Inv_full m c hn h).2.1 y
  h16 y _ := congrFun (Inv_full m c hn h).2.2.1 y
  h17 _ := (Inv_full m c hn h).2.2.2

end Cert.FfnIdeal.Hand

end
-- ==== Proof.FfnSpec.lean ====
/- The value of the first feed-forward block and of its modulation, token by token, over the extended reals. -/
module

public import proofs.«01_k».proof.Proof.BackSpec

@[expose] public section

noncomputable section

namespace Cert.FfnSpec

open Idealize.ShloMosaic
open Cert.BackSpec

/-- `v` times its logistic. -/
def silu (v : EReal) : EReal := v * Ideal.div 1 (1 + Ideal.exp (-v))

/-- What the modulation reads: the conditions of the prompt and of the two batches of latents, the weights and the bias. -/
structure Cond where
  cx : Fin 1024 → EReal
  cl : Fin 2 → Fin 1024 → EReal
  wm : Fin 1024 → Fin 9216 → EReal
  bm : Fin 9216 → EReal

/-- The activated conditions: the prompt's row, the two latents' rows, and rows of zeros. -/
def Cond.act (p : Cond) (r : Fin 8) (k : Fin 1024) : EReal :=
  if r.val < 1 then silu (p.cx k) else if h : r.val < 3 then silu (p.cl ⟨r.val - 1, by omega⟩ k) else 0

/-- The modulation. -/
def Cond.md (p : Cond) (r : Fin 8) (j : Fin 9216) : EReal := (∑ k, p.act r k * p.wm k j) + p.bm j

/-- What one token reads: its own row, its modulation's row, and the weights. -/
structure Tok where
  x : Fin 1024 → EReal
  md : Fin 9216 → EReal
  g : Fin 6 → Fin 1024 → EReal
  w13 : Fin 1024 → Fin 5632 → EReal
  w2 : Fin 2816 → Fin 1024 → EReal

/-- The block's modulated input. -/
def Tok.h (p : Tok) (j : Fin 1024) : EReal :=
  rms p.x (p.g 0) j * (1 + p.md ⟨1024 + j.val, by omega⟩) + p.md ⟨j.val, by omega⟩

/-- Its first product. -/
def Tok.gu (p : Tok) (j : Fin 5632) : EReal := ∑ x, p.h x * p.w13 x j

/-- Its second product, of the gated activation. -/
def Tok.ff (p : Tok) (j : Fin 1024) : EReal :=
  ∑ x : Fin 2816, silu (p.gu ⟨x.val, by omega⟩) * p.gu ⟨2816 + x.val, by omega⟩ * p.w2 x j

/-- The token after the block. -/
def Tok.out (p : Tok) (j : Fin 1024) : EReal :=
  p.x j + half * p.md ⟨2048 + j.val, by omega⟩ * rms p.ff (p.g 1) j

end Cert.FfnSpec
-- ==== Proof.FfnPay.lean ====
/- The kernel's payloads, read at one row, are the row-wise value of that row's token. -/
module

public import proofs.«01_k».proof.Proof.FfnHand.Outs
public import proofs.«01_k».proof.Proof.FfnSpec

@[expose] public section

set_option maxRecDepth 16384

noncomputable section

namespace Cert.FfnIdeal.Row

open Cert.FfnIdeal Cert.FfnIdeal.Gen Cert.FfnIdeal.Hand Idealize.ShloMosaic Idealize.ShloMosaic.TcCoe Idealize.SL.Sem
open Cert.BackSpec (rms c1024 epsRms half)
open Cert.FfnSpec

/-- A cast changes no entry. -/
theorem cast1 (v : Vec Ideal S1024x512 .f32) (k : Fin 1024) (j : Fin 512) : k0_pay1 v (ix2 k j) = v (ix2 k j) := by
  pointwise [k0_pay1]

/-- A cast changes no entry. -/
theorem cast2 (v : Vec Ideal S256x1024 .f32) (k : Fin 256) (j : Fin 1024) : k0_pay2 v (ix2 k j) = v (ix2 k j) := by
  pointwise [k0_pay2]

/-- A cast changes no entry. -/
theorem cast8 (v : Vec Ideal S64x5632 .f32) (k : Fin 64) (j : Fin 5632) : k0_pay8 v (ix2 k j) = v (ix2 k j) := by
  pointwise [k0_pay8]

/-- The activated row of the prompt's condition. -/
theorem act3 (v : Vec Ideal S1x1024 .f32) (k : Fin 1024) : k0_pay3 v (ix2 0 k) = silu (v (ix2 0 k)) := by
  pointwise [k0_pay3]
  rfl

/-- The activated rows of the latents' conditions. -/
theorem act4 (v : Vec Ideal S2x1024 .f32) (r : Fin 2) (k : Fin 1024) : k0_pay4 v (ix2 r k) = silu (v (ix2 r k)) := by
  pointwise [k0_pay4]
  rfl

/-- The rows of zeros. -/
theorem act5 (r : Fin 5) (k : Fin 1024) : (k0_pay5 : FVec Ideal S5x1024 .f32) (ix2 r k) = 0 := by
  pointwise [k0_pay5]

/-- The modulation's columns of one block, kept in the kernel's memory. -/
theorem mod6 (a : Vec Ideal S8x1024 .f32) (w : Vec Ideal S1024x512 .f32) (b : Vec Ideal S1x512 .f32) (r : Fin 8) (j : Fin 512) :
    k0_pay6 a w b (ix2 r j) = (∑ k : Fin 1024, a (ix2 r k) * w (ix2 k j)) + b (ix2 0 j) := by
  pointwise [k0_pay6]

/-- The modulation's columns of one block, returned. -/
theorem mod9 (a : Vec Ideal S8x1024 .f32) (w : Vec Ideal S1024x512 .f32) (b : Vec Ideal S1x512 .f32) (r : Fin 8) (j : Fin 512) :
    k0_pay9 a w b (ix2 r j) = (∑ k : Fin 1024, a (ix2 r k) * w (ix2 k j)) + b (ix2 0 j) := by
  pointwise [k0_pay9]

/-- Group 0's rows of the tile. -/
theorem rows0 (a : BitVec 32) (x0 x1 : Vec Ideal S512x1024 .f32) (r : Fin 256) (j : Fin 1024) :
    k0_pay11 a x0 x1 (ix2 r j) = k0_pay10 a x0 x1 (ix2 ⟨r.val, by omega⟩ j) := by
  pointwise [k0_pay11]

/-- Group 1's rows of the tile. -/
theorem rows1 (a : BitVec 32) (x0 x1 : Vec Ideal S512x1024 .f32) (r : Fin 256) (j : Fin 1024) :
    k0_pay12 a x0 x1 (ix2 r j) = k0_pay10 a x0 x1 (ix2 ⟨256 + r.val, by omega⟩ j) := by
  pointwise [k0_pay12]

/-- Group 0: the first product. -/
theorem gu0 (p : Tok) (r : Fin 256) (v44 v46 : Vec Ideal S1x1024 .f32) (v49 : FVec Ideal S256x1024 .f32) (v51 : Vec Ideal S1x1024 .f32)
    (v91 : Vec Ideal S1024x5632 .bf16)
    (h44 : ∀ j : Fin 1024, v44 (ix2 0 j) = p.md ⟨j.val, by omega⟩) (h46 : ∀ j : Fin 1024, v46 (ix2 0 j) = p.md ⟨1024 + j.val, by omega⟩)
    (h49 : ∀ j : Fin 1024, v49 (ix2 r j) = p.x j) (h51 : ∀ j : Fin 1024, v51 (ix2 0 j) = p.g 0 j)
    (h91 : ∀ (k : Fin 1024) (j : Fin 5632), v91 (ix2 k j) = p.w13 k j) (j : Fin 5632) :
    k0_pay13 v44 v46 v49 v51 v91 (ix2 r j) = p.gu j := by
  pointwise [k0_pay13]
  simp only [h44, h46, h49, h51, h91]
  rfl

/-- Group 1: the first product. -/
theorem gu1 (p : Tok) (r : Fin 256) (v44 v46 : Vec Ideal S1x1024 .f32) (v50 : FVec Ideal S256x1024 .f32) (v71 : Vec Ideal S1x1024 .f32)
    (v93 : Vec Ideal S1024x5632 .bf16)
    (h44 : ∀ j : Fin 1024, v44 (ix2 0 j) = p.md ⟨j.val, by omega⟩) (h46 : ∀ j : Fin 1024, v46 (ix2 0 j) = p.md ⟨1024 + j.val, by omega⟩)
    (h50 : ∀ j : Fin 1024, v50 (ix2 r j) = p.x j) (h71 : ∀ j : Fin 1024, v71 (ix2 0 j) = p.g 0 j)
    (h93 : ∀ (k : Fin 1024) (j : Fin 5632), v93 (ix2 k j) = p.w13 k j) (j : Fin 5632) :
    k0_pay14 v44 v46 v50 v71 v93 (ix2 r j) = p.gu j := by
  pointwise [k0_pay14]
  simp only [h44, h46, h50, h71, h93]
  rfl

/-- Group 1: the second product. -/
theorem ff1 (p : Tok) (r : Fin 256) (v94 : FVec Ideal S256x5632 .f32) (v109 : Vec Ideal S2816x1024 .bf16)
    (h94 : ∀ j : Fin 5632, v94 (ix2 r j) = p.gu j) (h109 : ∀ (k : Fin 2816) (j : Fin 1024), v109 (ix2 k j) = p.w2 k j) (j : Fin 1024) :
    k0_pay15 v94 v109 (ix2 r j) = p.ff j := by
  pointwise [k0_pay15]
  simp only [h94, h109]
  rfl

/-- Group 0: the tokens after the block. -/
theorem out0 (p : Tok) (r : Fin 256) (v48 : Vec Ideal S1x1024 .f32) (v49 : FVec Ideal S256x1024 .f32) (v92 : FVec Ideal S256x5632 .f32)
    (v107 : Vec Ideal S2816x1024 .bf16) (v113 : Vec Ideal S1x1024 .f32)
    (h48 : ∀ j : Fin 1024, v48 (ix2 0 j) = p.md ⟨2048 + j.val, by omega⟩) (h49 : ∀ j : Fin 1024, v49 (ix2 r j) = p.x j)
    (h92 : ∀ j : Fin 5632, v92 (ix2 r j) = p.gu j) (h107 : ∀ (k : Fin 2816) (j : Fin 1024), v107 (ix2 k j) = p.w2 k j)
    (h113 : ∀ j : Fin 1024, v113 (ix2 0 j) = p.g 1 j) (j : Fin 1024) :
    k0_pay16 v48 v49 v92 v107 v113 (ix2 r j) = p.out j := by
  pointwise [k0_pay16]
  simp only [h48, h49, h92, h107, h113]
  rfl

/-- Group 1: the mean of the squares of the second product. -/
theorem ms1 (p : Tok) (r : Fin 256) (v94 : FVec Ideal S256x5632 .f32) (v109 : Vec Ideal S2816x1024 .bf16)
    (hf : ∀ j : Fin 1024, k0_pay15 v94 v109 (ix2 r j) = p.ff j) :
    k0_pay18 v94 v109 (ix2 r 0) = Ideal.div (∑ x, p.ff x * p.ff x) c1024 := by
  pointwise [k0_pay18]
  simp only [hf]

/-- The stored tile at a row of group 0. -/
theorem cat0 (r : Fin 256) (v50 v110 v128 : FVec Ideal S256x1024 .f32) (v130 v131 : FVec Ideal S1x1024 .f32) (v136 : FVec Ideal S256x1 .f32)
    (e : Ideal .f32) (j : Fin 1024) :
    k0_pay7 v50 v110 v128 v130 v131 v136 e (ix2 ⟨r.val, by omega⟩ j) = v128 (ix2 r j) := by
  pointwise [k0_pay7]

/-- The stored tile at a row of group 1. -/
theorem cat1 (p : Tok) (r : Fin 256) (v50 v110 v128 : FVec Ideal S256x1024 .f32) (v48 v131 : FVec Ideal S1x1024 .f32) (v136 : FVec Ideal S256x1 .f32)
    (h50 : ∀ j : Fin 1024, v50 (ix2 r j) = p.x j) (h110 : ∀ j : Fin 1024, v110 (ix2 r j) = p.ff j)
    (h48 : ∀ j : Fin 1024, v48 (ix2 0 j) = p.md ⟨2048 + j.val, by omega⟩) (h131 : ∀ j : Fin 1024, v131 (ix2 0 j) = p.g 1 j)
    (h136 : v136 (ix2 r 0) = Ideal.div (∑ x, p.ff x * p.ff x) c1024) (j : Fin 1024) :
    k0_pay7 v50 v110 v128 (k0_pay17 v48) v131 v136 (Scalar.ofBits .f32 0x358637BD#32) (ix2 ⟨256 + r.val, by omega⟩ j) = p.out j := by
  pointwise [k0_pay7, k0_pay17]
  simp only [h50, h110, h48, h131, h136]
  rfl

end Cert.FfnIdeal.Row
-- ==== Proof.FfnIn.lean ====
/- What the kernel's windows hold at a grid point, and what its kept buffers hold once filled, read entry by entry. -/
module

public import proofs.«01_k».proof.Proof.FfnHand.Inv
public import proofs.«01_k».proof.Proof.FfnPay

@[expose] public section

set_option maxRecDepth 16384

noncomputable section

namespace Cert.FfnIdeal.Row

open Cert.FfnIdeal Cert.FfnIdeal.Gen Cert.FfnIdeal.Hand Idealize.ShloMosaic Idealize.ShloMosaic.TcCoe Idealize.SL.Sem
open Cert.BackSpec (rms c1024 epsRms half modRow)
open Cert.FfnSpec

variable (m : (ℓ : Loc nD τ sig) → Buf (Elt Ideal) ℓ)

/-- The conditions, as the kernel's program holds them. -/
def cnd (c : Dev nD) : Cond where
  cx j := m ((c : Thread nD τ).loc main_arg6) (ix2 0 j)
  cl i j := m ((c : Thread nD τ).loc main_arg7) (ix2 i j)
  wm i j := m ((c : Thread nD τ).loc main_arg8) (ix2 i j)
  bm j := m ((c : Thread nD τ).loc main_arg9) (ix2 0 j)

/-- What token `r` reads of the arguments. -/
def tok (c : Dev nD) (r : Fin 8192) : Tok where
  x j := if h : r.val < 4096 then m ((c : Thread nD τ).loc main_arg0) (ix2 ⟨r.val, h⟩ j)
    else m ((c : Thread nD τ).loc main_arg1) (ix2 ⟨r.val - 4096, by omega⟩ j)
  md j := (cnd m c).md (modRow r) j
  g i j := m ((c : Thread nD τ).loc main_arg2) (ix2 i j)
  w13 i j := m ((c : Thread nD τ).loc main_arg3) (ix2 i j)
  w2 i j := m ((c : Thread nD τ).loc main_arg4) (ix2 i j)

/-- There are 27 points. -/
theorem lt27 (t : Fin cfg0.N) : t.val < 27 := lt_of_lt_of_eq t.isLt (show cfg0.N = 27 from N_0)

/-- The token that row `r` of point `t`'s tile is. -/
def at512 (t : Fin cfg0.N) (r : Fin 512) : Fin 8192 := ⟨512 * (t.val - 11) + r.val, by have := lt27 t; omega⟩

/-- The row of the modulation that point `t` reads. -/
def rowT (t : Fin cfg0.N) : Fin 8 := if t.val < 19 then 0 else if t.val < 23 then 1 else 2

theorem modRow_at (t : Fin cfg0.N) (h : 11 ≤ t.val) (r : Fin 512) : modRow (at512 t r) = rowT t := by
  unfold modRow rowT at512
  dsimp only
  split_ifs <;> first | rfl | (exfalso; omega)

/-- The block of the modulation's columns that point `t` reads. -/
def blk8 (t : Fin cfg0.N) : ℕ := if t.val < 11 then min t.val 5 else 6 + min (t.val - 11) 11

theorem blk8_lt (t : Fin cfg0.N) : blk8 t < 18 := by unfold blk8; split_ifs <;> omega

theorem col_lt (t : Fin cfg0.N) (j : Fin 512) : 512 * blk8 t + j.val < 9216 := by have := blk8_lt t; omega

theorem off4 : ∀ t : Fin grid0.N, 11 ≤ t.val → k0_off4 (grid0.coords t) 0 = (rowT t).val ∧ k0_off4 (grid0.coords t) 1 = 0 := by decide +kernel
theorem off5 : ∀ t : Fin grid0.N, 11 ≤ t.val → k0_off5 (grid0.coords t) 0 = (rowT t).val ∧ k0_off5 (grid0.coords t) 1 = 1024 := by decide +kernel
theorem off6 : ∀ t : Fin grid0.N, 11 ≤ t.val → k0_off6 (grid0.coords t) 0 = (rowT t).val ∧ k0_off6 (grid0.coords t) 1 = 2048 := by decide +kernel

/-- One row of 1024 entries loaded from the kept modulation at the offsets `o`. -/
theorem ld_row (X : Vec Ideal S8x3072 .f32) (o : Fin 2 → Nat) (h : ∀ a, o a + S1x1024.size a ≤ S8x3072.size a) (a : Fin 8) (k : Nat)
    (h0 : o 0 = a.val) (h1 : o 1 = k) (j : Fin 1024) (hk : k + j.val < 3072) :
    View.ld X (Rect.unit (s := S8x3072) o S1x1024.size h) (ix2 0 j) = X (ix2 a ⟨k + j.val, hk⟩) := by
  show X _ = X _
  congr 1
  funext b
  apply Fin.ext
  match b with
  | ⟨0, _⟩ => show o 0 + 1 * 0 = a.val; omega
  | ⟨1, _⟩ => show o 1 + 1 * j.val = k + j.val; omega

/-- One row of the norms' scales. -/
theorem ld_g0 (X : Vec Ideal S6x1024 .f32) (j : Fin 1024) :
    View.ld X (Rect.unit (s := S6x1024) ![0, 0] S1x1024.size inb_S6x1024_S1x1024_0_0) (ix2 0 j) = X (ix2 0 j) := by
  show X _ = X _
  congr 1
  funext b
  apply Fin.ext
  match b with
  | ⟨0, _⟩ => rfl
  | ⟨1, _⟩ => show 0 + 1 * j.val = j.val; omega

/-- One row of the norms' scales. -/
theorem ld_g1 (X : Vec Ideal S6x1024 .f32) (j : Fin 1024) :
    View.ld X (Rect.unit (s := S6x1024) ![1, 0] S1x1024.size inb_S6x1024_S1x1024_1_0) (ix2 0 j) = X (ix2 1 j) := by
  show X _ = X _
  congr 1
  funext b
  apply Fin.ext
  match b with
  | ⟨0, _⟩ => rfl
  | ⟨1, _⟩ => show 0 + 1 * j.val = j.val; omega

/-- The comparison that chooses between the prompt's and the latents' tokens. -/
theorem pick : ∀ t : Fin grid0.N, 11 ≤ t.val →
    Scalar.cmpi .slt (Scalar.subi (BitVec.ofNat 32 ((grid0.coords t) 0)) 11#32) 8#32 = if t.val < 19 then 1#1 else 0#1 := by decide +kernel

/-- The tile of tokens that a point reads. -/
theorem pick_x (t : Fin cfg0.N) (h : 11 ≤ t.val) (x0 x1 : Vec Ideal S512x1024 .f32) :
    k0_pay10 (BitVec.ofNat 32 ((grid0.coords t) 0)) x0 x1 = if t.val < 19 then x0 else x1 := by
  show Scalar.select (Scalar.cmpi .slt (Scalar.subi (BitVec.ofNat 32 ((grid0.coords t) 0)) 11#32) 8#32) x0 x1 = _
  rw [pick t h]
  by_cases h1 : t.val < 19
  · rw [if_pos h1, if_pos h1]; rfl
  · rw [if_neg h1, if_neg h1]; rfl

theorem index0 : ∀ t : Fin grid0.N, win0_0.index t 0 = min (t.val - 11) 7 ∧ win0_0.index t 1 = 0 := by decide +kernel
theorem index1 : ∀ t : Fin grid0.N, win0_1.index t 0 = t.val - 19 ∧ win0_1.index t 1 = 0 := by decide +kernel
theorem index3 : ∀ t : Fin grid0.N, win0_3.index t 0 = 0 ∧ win0_3.index t 1 = min t.val 10 := by decide +kernel
theorem index4 : ∀ t : Fin grid0.N, win0_4.index t 0 = min t.val 10 ∧ win0_4.index t 1 = 0 := by decide +kernel
theorem index5 : ∀ t : Fin grid0.N, win0_5.index t 0 = t.val - 11 ∧ win0_5.index t 1 = 0 := by decide +kernel
theorem index8 : ∀ t : Fin grid0.N, win0_8.index t 0 = 0 ∧ win0_8.index t 1 = blk8 t := by decide +kernel
theorem index9 : ∀ t : Fin grid0.N, win0_9.index t 0 = 0 ∧ win0_9.index t 1 = blk8 t := by decide +kernel

/-- Argument 0's block at point `t`. -/
theorem in0 (c : Dev nD) (t : Fin cfg0.N) (r : Fin 512) (j : Fin 1024) :
    iblk m c 0 t (ix2 r j) = m ((c : Thread nD τ).loc main_arg0) (ix2 (⟨512 * min (t.val - 11) 7 + r.val, by have := lt27 t; omega⟩ : Fin 4096) j) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = 512 * min (t.val - 11) 7 + r.val; rw [(index0 t).1]; omega
  | ⟨1, _⟩ => show win0_0.index t 1 * 1024 + 1 * j.val = j.val; rw [(index0 t).2]; omega

/-- Argument 1's block at point `t`. -/
theorem in1 (c : Dev nD) (t : Fin cfg0.N) (r : Fin 512) (j : Fin 1024) :
    iblk m c 1 t (ix2 r j) = m ((c : Thread nD τ).loc main_arg1) (ix2 (⟨512 * (t.val - 19) + r.val, by have := lt27 t; omega⟩ : Fin 4096) j) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 512 + 1 * r.val = 512 * (t.val - 19) + r.val; rw [(index1 t).1]; omega
  | ⟨1, _⟩ => show win0_1.index t 1 * 1024 + 1 * j.val = j.val; rw [(index1 t).2]; omega

/-- Argument 2's block at point `t`. -/
theorem in2 (c : Dev nD) (t : Fin cfg0.N) (r : Fin 6) (j : Fin 1024) :
    iblk m c 2 t (ix2 r j) = m ((c : Thread nD τ).loc main_arg2) (ix2 r j) := by
  unfold iblk
  rw [View.read_apply]
  show V m c main_arg2 _ = m ((c : Thread nD τ).loc main_arg2) _
  rw [V_main_arg2]
  congr 1
  funext a
  apply Fin.ext
  match a with
  | ⟨0, _⟩ => show 0 * 6 + 1 * r.val = r.val; omega
  | ⟨1, _⟩ => show 0 * 1024 + 1 * j.val = j.val; omega

/-- Argument 3's block at point `t`. -/
theorem in3 (c : Dev nD) (t : Fin cfg0.N) (r : Fin 1024) (j : Fin 512) :
    iblk m c 3 t (ix2 r j) = m ((c : Thread nD τ).loc main_arg3) (ix2 r (⟨512 * min t.val 10 + j.val, by have := lt27 t; omega⟩ : Fin 5632)) := by
  unfold iblk
  rw [View.read_apply]
  show V m c main_arg3 _ = m ((c : Thread nD τ).loc main_arg3) _
  rw [V_main_arg3]
  congr 1
  funext a
  apply Fin.ext
  match a with
  | ⟨0, _⟩ => show win0_3.index t 0 * 1024 + 1 * r.val = r.val; rw [(index3 t).1]; omega
  | ⟨1, _⟩ => show win0_3.index t 1 * 512 + 1 * j.val = 512 * min t.val 10 + j.val; rw [(index3 t).2]; omega

/-- Argument 4's block at point `t`. -/
theorem in4 (c : Dev nD) (t : Fin cfg0.N) (r : Fin 256) (j : Fin 1024) :
    iblk m c 4 t (ix2 r j) = m ((c : Thread nD τ).loc main_arg4) (ix2 (⟨256 * min t.val 10 + r.val, by have := lt27 t; omega⟩ : Fin 2816) j) := by
  unfold iblk
  rw [View.read_apply]
  show V m c main_arg4 _ = m ((c : Thread nD τ).loc main_arg4) _
  rw [V_main_arg4]
  congr 1
  funext a
  apply Fin.ext
  match a with
  | ⟨0, _⟩ => show win0_4.index t 0 * 256 + 1 * r.val = 256 * min t.val 10 + r.val; rw [(index4 t).1]; omega
  | ⟨1, _⟩ => show win0_4.index t 1 * 1024 + 1 * j.val = j.val; rw [(index4 t).2]; omega

/-- Argument 5's block at point `t`. -/
theorem in5 (c : Dev nD) (t : Fin cfg0.N) (r : Fin 64) (j : Fin 5632) :
    iblk m c 5 t (ix2 r j) = m ((c : Thread nD τ).loc main_arg5) (ix2 (⟨64 * (t.val - 11) + r.val, by have := lt27 t; omega⟩ : Fin 1024) j) := by
  unfold iblk
  rw [View.read_apply]
  show V m c main_arg5 _ = m ((c : Thread nD τ).loc main_arg5) _
  rw [V_main_arg5]
  congr 1
  funext a
  apply Fin.ext
  match a with
  | ⟨0, _⟩ => show win0_5.index t 0 * 64 + 1 * r.val = 64 * (t.val - 11) + r.val; rw [(index5 t).1]; omega
  | ⟨1, _⟩ => show win0_5.index t 1 * 5632 + 1 * j.val = j.val; rw [(index5 t).2]; omega

/-- Argument 6's block at point `t`. -/
theorem in6 (c : Dev nD) (t : Fin cfg0.N) (r : Fin 1) (j : Fin 1024) :
    iblk m c 6 t (ix2 r j) = m ((c : Thread nD τ).loc main_arg6) (ix2 r j) := by
  unfold iblk
  rw [View.read_apply]
  show V m c main_arg6 _ = m ((c : Thread nD τ).loc main_arg6) _
  rw [V_main_arg6]
  congr 1
  funext a
  apply Fin.ext
  match a with
  | ⟨0, _⟩ => show 0 * 1 + 1 * r.val = r.val; omega
  | ⟨1, _⟩ => show 0 * 1024 + 1 * j.val = j.val; omega

/-- Argument 7's block at point `t`. -/
theorem in7 (c : Dev nD) (t : Fin cfg0.N) (r : Fin 2) (j : Fin 1024) :
    iblk m c 7 t (ix2 r j) = m ((c : Thread nD τ).loc main_arg7) (ix2 r j) := by
  unfold iblk
  rw [View.read_apply]
  show V m c main_arg7 _ = m ((c : Thread nD τ).loc main_arg7) _
  rw [V_main_arg7]
  congr 1
  funext a
  apply Fin.ext
  match a with
  | ⟨0, _⟩ => show 0 * 2 + 1 * r.val = r.val; omega
  | ⟨1, _⟩ => show 0 * 1024 + 1 * j.val = j.val; omega

/-- Argument 8's block at point `t`. -/
theorem in8 (c : Dev nD) (t : Fin cfg0.N) (r : Fin 1024) (j : Fin 512) :
    iblk m c 8 t (ix2 r j) = m ((c : Thread nD τ).loc main_arg8) (ix2 r (⟨512 * blk8 t + j.val, by have := blk8_lt t; omega⟩ : Fin 9216)) := by
  unfold iblk
  rw [View.read_apply]
  show V m c main_arg8 _ = m ((c : Thread nD τ).loc main_arg8) _
  rw [V_main_arg8]
  congr 1
  funext a
  apply Fin.ext
  match a with
  | ⟨0, _⟩ => show win0_8.index t 0 * 1024 + 1 * r.val = r.val; rw [(index8 t).1]; omega
  | ⟨1, _⟩ => show win0_8.index t 1 * 512 + 1 * j.val = 512 * blk8 t + j.val; rw [(index8 t).2]; omega

/-- Argument 9's block at point `t`. -/
theorem in9 (c : Dev nD) (t : Fin cfg0.N) (r : Fin 1) (j : Fin 512) :
    iblk m c 9 t (ix2 r j) = m ((c : Thread nD τ).loc main_arg9) (ix2 r (⟨512 * blk8 t + j.val, by have := blk8_lt t; omega⟩ : Fin 9216)) := by
  unfold iblk
  rw [View.read_apply]
  show V m c main_arg9 _ = m ((c : Thread nD τ).loc main_arg9) _
  rw [V_main_arg9]
  congr 1
  funext a
  apply Fin.ext
  match a with
  | ⟨0, _⟩ => show win0_9.index t 0 * 1 + 1 * r.val = r.val; rw [(index9 t).1]; omega
  | ⟨1, _⟩ => show win0_9.index t 1 * 512 + 1 * j.val = 512 * blk8 t + j.val; rw [(index9 t).2]; omega

/-- The first weight, kept whole. -/
theorem w13_at (c : Dev nD) (k : Fin 1024) (j : Fin 5632) : w13M m c (ix2 k j) = m ((c : Thread nD τ).loc main_arg3) (ix2 k j) := by
  refine (cast1 (iblk m c 3 (pt (j.val / 512))) k (⟨j.val % 512, Nat.mod_lt _ (by decide)⟩ : Fin 512)).trans ?_
  rw [in3]
  congr 2
  apply Fin.ext
  show 512 * min (min (j.val / 512) 26) 10 + j.val % 512 = j.val
  omega

/-- The second weight, kept whole. -/
theorem w2_at (c : Dev nD) (k : Fin 2816) (j : Fin 1024) : w2M m c (ix2 k j) = m ((c : Thread nD τ).loc main_arg4) (ix2 k j) := by
  refine (cast2 (iblk m c 4 (pt (k.val / 256))) (⟨k.val % 256, Nat.mod_lt _ (by decide)⟩ : Fin 256) j).trans ?_
  rw [in4]
  congr 2
  apply Fin.ext
  show 256 * min (min (k.val / 256) 26) 10 + k.val % 256 = k.val
  omega

/-- The activated conditions, entry by entry. -/
theorem act_at (c : Dev nD) (r : Fin 8) (k : Fin 1024) : actM m c (ix2 r k) = (cnd m c).act r k := by
  unfold actM actRows actPieces Cond.act
  by_cases h0 : r.val < 1
  · obtain rfl : r = 0 := Fin.ext (by show r.val = 0; omega)
    rw [if_pos h0]
    rw [View.canon_cons_of_not_mem _ _ (by rw [Rect.mem_set_unit]; intro hm; have h3 : 3 ≤ 0 := (hm 0).1; omega)]
    rw [View.canon_cons_of_not_mem _ _ (by rw [Rect.mem_set_unit]; intro hm; have h3 : 1 ≤ 0 := (hm 0).1; omega)]
    have e : (ix2 0 k : S8x1024.Idx) = (Rect.unit (s := S8x1024) ![0, 0] S1x1024.size inb_S8x1024_S1x1024_0_0).emb (ix2 (0 : Fin 1) k) := by
      funext a; apply Fin.ext
      match a with
      | ⟨0, _⟩ => rfl
      | ⟨1, _⟩ => show k.val = 0 + 1 * k.val; omega
    rw [e, View.canon_cons_emb]
    refine (act3 _ k).trans ?_
    rw [in6]; rfl
  · by_cases h1 : r.val < 3
    · rw [if_neg h0, dif_pos h1]
      rw [View.canon_cons_of_not_mem _ _ (by rw [Rect.mem_set_unit]; intro hm; have h3 : 3 ≤ r.val := (hm 0).1; omega)]
      have e : (ix2 r k : S8x1024.Idx) = (Rect.unit (s := S8x1024) ![1, 0] S2x1024.size inb_S8x1024_S2x1024_1_0).emb (ix2 (⟨r.val - 1, by omega⟩ : Fin 2) k) := by
        funext a; apply Fin.ext
        match a with
        | ⟨0, _⟩ => show r.val = 1 + 1 * (r.val - 1); omega
        | ⟨1, _⟩ => show k.val = 0 + 1 * k.val; omega
      rw [e, View.canon_cons_emb]
      refine (act4 _ _ k).trans ?_
      rw [in7]; rfl
    · rw [if_neg h0, dif_neg h1]
      have e : (ix2 r k : S8x1024.Idx) = (Rect.unit (s := S8x1024) ![3, 0] S5x1024.size inb_S8x1024_S5x1024_3_0).emb (ix2 (⟨r.val - 3, by omega⟩ : Fin 5) k) := by
        funext a; apply Fin.ext
        match a with
        | ⟨0, _⟩ => show r.val = 3 + 1 * (r.val - 3); omega
        | ⟨1, _⟩ => show k.val = 0 + 1 * k.val; omega
      rw [e, View.canon_cons_emb]
      exact act5 _ k

/-- The modulation's columns in a block, entry by entry. -/
theorem cols_at (c : Dev nD) (t : Fin cfg0.N) (r : Fin 8) (j : Fin 512) (q : Fin 9216) (hq : q.val = 512 * blk8 t + j.val) :
    (∑ k : Fin 1024, actM m c (ix2 r k) * iblk m c 8 t (ix2 k j)) + iblk m c 9 t (ix2 0 j) = (cnd m c).md r q := by
  have e : q = ⟨512 * blk8 t + j.val, col_lt t j⟩ := Fin.ext hq
  rw [e]
  simp only [act_at, in8, in9]
  rfl

/-- The kept modulation, entry by entry. -/
theorem mod_at (c : Dev nD) (r : Fin 8) (j : Fin 3072) : modM m c (ix2 r j) = (cnd m c).md r ⟨j.val, by omega⟩ := by
  show k0_pay6 (actM m c) (iblk m c 8 (pt (j.val / 512))) (iblk m c 9 (pt (j.val / 512))) (ix2 r (⟨j.val % 512, Nat.mod_lt _ (by decide)⟩ : Fin 512)) = _
  rw [mod6]
  refine cols_at m c _ r _ _ ?_
  have e : blk8 (pt (j.val / 512)) = j.val / 512 := by
    unfold blk8
    show (if min (j.val / 512) 26 < 11 then min (min (j.val / 512) 26) 5 else 6 + min (min (j.val / 512) 26 - 11) 11) = j.val / 512
    rw [if_pos (by omega)]; omega
  rw [e]
  show j.val = 512 * (j.val / 512) + j.val % 512
  omega

/-- The tokens a point's tile reads, row by row. -/
theorem x_at (c : Dev nD) (t : Fin cfg0.N) (h : 11 ≤ t.val) (q : Fin 512) (j : Fin 1024) :
    k0_pay10 (BitVec.ofNat 32 ((grid0.coords t) 0)) (iblk m c 0 t) (iblk m c 1 t) (ix2 q j) = (tok m c (at512 t q)).x j := by
  rw [pick_x t h]
  unfold tok at512
  dsimp only
  have ht := lt27 t
  by_cases h1 : t.val < 19
  · rw [if_pos h1, dif_pos (by omega), in0]
    refine congrArg (fun z : Fin 4096 => m ((c : Thread nD τ).loc main_arg0) (ix2 z j)) (Fin.ext ?_)
    show 512 * min (t.val - 11) 7 + q.val = 512 * (t.val - 11) + q.val
    omega
  · rw [if_neg h1, dif_neg (by omega), in1]
    refine congrArg (fun z : Fin 4096 => m ((c : Thread nD τ).loc main_arg1) (ix2 z j)) (Fin.ext ?_)
    show 512 * (t.val - 19) + q.val = 512 * (t.val - 11) + q.val - 4096
    omega

end Cert.FfnIdeal.Row
-- ==== Proof.FfnHand.Frame.lean ====
/- The run of the grid: what each point finds and leaves, and the frame at the whole program. -/
module

public import proofs.«01_k».proof.Proof.FfnHand.Inv
public import Idealize.ShloMosaic.Lib.Claim

@[expose] public section

-- membership in a rectangle of production extents (`View.cover_of_tiled`): the elaborator's structural look
-- recurses once per coordinate of the long axes
set_option maxRecDepth 16384

noncomputable section

namespace Cert.FfnIdeal.Hand

open Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The tile of tokens the point leaves (before point 11, where it leaves none, any block). -/
def tile (c : Dev nD) (t : Fin cfg0.N) : Vec F S512x1024 .f32 :=
  if h : 11 ≤ t.val then
    blkX (grid0.coords t) ((hcond0_4 t).mpr h) (iblk m c 0 t) (iblk m c 1 t) (iblk m c 2 t) (w13M m c) (w2M m c) (modM m c)
  else iblk m c 0 t

/-- At a point that leaves one, the tile is the body's. -/
theorem tile_eq (c : Dev nD) (t : Fin cfg0.N) (h : 11 ≤ t.val) :
    tile m c t = blkX (grid0.coords t) ((hcond0_4 t).mpr h) (iblk m c 0 t) (iblk m c 1 t) (iblk m c 2 t) (w13M m c) (w2M m c) (modM m c) := by
  unfold tile; rw [dif_pos h]

/-- The slab of the cast weight the point leaves. -/
def slab (c : Dev nD) (t : Fin cfg0.N) : Vec F S64x5632 .bf16 := k0_pay8 (iblk m c 5 t)

/-- The block of modulation columns in the third output's buffer after the point: the one of the last point that stored one. -/
def tailB (c : Dev nD) (t : Fin cfg0.N) : Vec F S8x512 .f32 :=
  k0_pay9 (actM m c) (iblk m c 8 (pt (max 11 (min t.val 22)))) (iblk m c 9 (pt (max 11 (min t.val 22))))

/-- At a point that stores one, it is the point's. -/
theorem tailB_eq (c : Dev nD) (t : Fin cfg0.N) (h4 : 11 ≤ t.val) (h5 : t.val < 23) :
    tailB m c t = k0_pay9 (actM m c) (iblk m c 8 t) (iblk m c 9 t) := by
  unfold tailB; rw [pt_val t (max 11 (min t.val 22)) (by omega)]

/-- The first point's blocks of the conditions make the activated rows. -/
theorem actM_eq (c : Dev nD) (t : Fin cfg0.N) (h : t.val = 0) : actRows (iblk m c 6 t) (iblk m c 7 t) = actM m c := by
  unfold actM; rw [pt_val t 0 h.symm]

/-- What a point that stores the modulation's chunk from the activated rows stores. -/
theorem modCk_eq (c : Dev nD) (t : Fin cfg0.N) (h : t.val = 0) : k0_pay6 (actRows (iblk m c 6 t) (iblk m c 7 t)) (iblk m c 8 t) (iblk m c 9 t) = modCk m c t := by
  rw [actM_eq m c t h]; rfl

/-- The region invariant before position `n`: the scratch at contents `Inv` allows, and the generator register at some state. -/
def PhiS (c : Dev nD) (n : ℕ) (h : n ≤ cfg0.N) : sProp 𝕄 :=
  iprop(∃ a b d e, ⌜Inv m c n a b d e⌝ ∗ (owns (c : Thread nD τ) scM0_0 fullShare a ∗ owns (c : Thread nD τ) scM0_1 fullShare b ∗ owns (c : Thread nD τ) scM0_2 fullShare d ∗ owns (c : Thread nD τ) scM0_3 fullShare e)
    ∗ (∃ r, prngReg c r))

/-! ## The pipeline's proof data -/

/-- The proof data of the one pipeline on core `c`: the arrays as the region finds them (`V`); after the body at
    point `t` each input's buffer at its block and the outputs' at `tile`, `slab` and `tailB`; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tile m c t
    | ⟨11, _⟩ => slab m c t
    | ⟨12, _⟩ => tailB m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = tile m c t := by dsimp only [dats]
theorem after0_11 (c : Dev nD) (t : Fin cfg0.N) : (dats m 0 c).after 11 t = slab m c t := by dsimp only [dats]
theorem after0_12 (c : Dev nD) (t : Fin cfg0.N) : (dats m 0 c).after 12 t = tailB m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- Output 12's buffer is not fresh at the points of case E. -/
theorem notFresh0_12_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → freshTab0_12 t.val = false := by decide +kernel

/-- Output 12's contents carry through the points that leave it idle: the proof data's `after` there is the point before's. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t hn hi _
  have hN : t.val < 27 := lt_of_lt_of_eq t.isLt (show cfg0.N = 27 from N_0)
  rw [after0_12, after0_12]
  by_cases h0 : t.val < 11
  · unfold tailB
    rw [show max 11 (min t.val 22) = 11 by omega, show max 11 (min (⟨t.val - 1, by omega⟩ : Fin cfg0.N).val 22) = 11 by
      show max 11 (min (t.val - 1) 22) = 11
      omega]
  · by_cases h5 : t.val < 23
    · rw [liveAt0_12_D t (fun h => h0 ((hcond0_0 t).mp h)) (fun h => h0 ((hcond0_1 t).mp h)) (fun h => absurd ((hcond0_2 t).mp h) (by omega)) (fun h => absurd ((hcond0_3 t).mp h) (by omega)) ((hcond0_4 t).mpr (by omega)) ((hcond0_5 t).mpr h5)] at hi
      exact absurd hi Bool.false_ne_true
    · unfold tailB
      rw [show max 11 (min t.val 22) = 22 by omega, show max 11 (min (⟨t.val - 1, by omega⟩ : Fin cfg0.N).val 22) = 22 by
        show max 11 (min (t.val - 1) 22) = 22
        omega]

/-- At a point of case E, output 12's buffer, untouched, holds what the run says it holds after the point: the last
    block of case D, carried. -/
theorem carried12_E (c : Dev nD) (t : Fin cfg0.N) (h0 : ¬t.val < 11) (h5 : ¬t.val < 23) (d) :
    (dats m 0 c).before 12 t d = (dats m 0 c).after 12 t := by
  have hn : t.val ≠ 0 := by omega
  have hN : t.val < 27 := lt_of_lt_of_eq t.isLt (show cfg0.N = 27 from N_0)
  have hB0 := fun h => h0 ((hcond0_0 t).mp h)
  have hB1 := fun h => h0 ((hcond0_1 t).mp h)
  have hB2 : ¬cond0_2 (grid0.coords t) := fun h => absurd ((hcond0_2 t).mp h) (by omega)
  have hB3 : ¬cond0_3 (grid0.coords t) := fun h => absurd ((hcond0_3 t).mp h) (by omega)
  have hB4 := (hcond0_4 t).mpr (by omega : 11 ≤ t.val)
  have hB5 := fun h => h5 ((hcond0_5 t).mp h)
  have hf : cfg0.fresh 12 t.val = false := (fresh0_12_eq t).trans (notFresh0_12_E t hB0 hB1 hB2 hB3 hB4 hB5)
  rw [Dat.before_out_traj (dats m 0 c) 12 rfl (fun _ _ => rfl) (fun t hn => hcarry0_12 m c t hn) t.val t rfl d, hf,
    if_neg Bool.false_ne_true]
  exact (hcarry0_12 m c t hn (idleAt0_12_E t hB0 hB1 hB2 hB3 hB4 hB5) hf).symm

/-- So the body, which leaves that buffer alone, meets its post there whether or not the block is written back. -/
theorem leaves12_E (c : Dev nD) (t : Fin cfg0.N) (h0 : ¬t.val < 11) (h5 : ¬t.val < 23) (d) :
    (iprop(owns (c : Thread nD τ) (ms0_12 t) fullShare ((dats m 0 c).before 12 t d)) : sProp 𝕄) ⊢ (dats m 0 c).leavesExact 12 t := by
  have hN : t.val < 27 := lt_of_lt_of_eq t.isLt (show cfg0.N = 27 from N_0)
  have hi : cfg0.idle 12 (grid0.coords t) = true :=
    idleAt0_12_E t (fun h => h0 ((hcond0_0 t).mp h)) (fun h => h0 ((hcond0_1 t).mp h)) (fun h => absurd ((hcond0_2 t).mp h) (by omega))
      (fun h => absurd ((hcond0_3 t).mp h) (by omega)) ((hcond0_4 t).mpr (by omega)) (fun h => h5 ((hcond0_5 t).mp h))
  cases hfl : (cfg0.win 12).flush t with
  | false =>
    rw [Dat.leavesExact_idle (dats m 0 c) 12 t hi hfl]
    iintro H; iexists d; iexact H
  | true =>
    rw [show (dats m 0 c).leavesExact 12 t = owns (c : Thread nD τ) (ms0_12 t) fullShare ((dats m 0 c).after 12 t) from by
      unfold Dat.leavesExact; rw [hi, hfl]]
    rw [carried12_E m c t h0 h5 d]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 32000000 in
/-- The body at any point: the closed forms say which case the point is in, the case's run applies, and the stores keep the
    invariant and leave the outputs' buffers at the proof data's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 27 := lt_of_lt_of_eq t.isLt (show cfg0.N = 27 from N_0)
  by_cases h0 : t.val < 11
  · by_cases h1 : t.val < 11
    · by_cases h2 : t.val % 27 = 0
      · by_cases h3 : t.val < 6
        · by_cases h4 : 11 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [Dat.leavesExact_idle (dats m 0 c) 10 t (idleAt0_10_A t ((hcond0_0 t).mpr h0) ((hcond0_1 t).mpr h1) ((hcond0_2 t).mpr h2) ((hcond0_3 t).mpr h3) (fun h => h4 ((hcond0_4 t).mp h))) (noFlush0_10_A t ((hcond0_0 t).mpr h0) ((hcond0_1 t).mpr h1) ((hcond0_2 t).mpr h2) ((hcond0_3 t).mpr h3) (fun h => h4 ((hcond0_4 t).mp h)))]
            rw [Dat.leavesExact_idle (dats m 0 c) 11 t (idleAt0_11_A t ((hcond0_0 t).mpr h0) ((hcond0_1 t).mpr h1) ((hcond0_2 t).mpr h2) ((hcond0_3 t).mpr h3) (fun h => h4 ((hcond0_4 t).mp h))) (noFlush0_11_A t ((hcond0_0 t).mpr h0) ((hcond0_1 t).mpr h1) ((hcond0_2 t).mpr h2) ((hcond0_3 t).mpr h3) (fun h => h4 ((hcond0_4 t).mp h)))]
            rw [Dat.leavesExact_idle (dats m 0 c) 12 t (idleAt0_12_A t ((hcond0_0 t).mpr h0) ((hcond0_1 t).mpr h1) ((hcond0_2 t).mpr h2) ((hcond0_3 t).mpr h3) (fun h => h4 ((hcond0_4 t).mp h))) (noFlush0_12_A t ((hcond0_0 t).mpr h0) ((hcond0_1 t).mpr h1) ((hcond0_2 t).mpr h2) ((hcond0_3 t).mpr h3) (fun h => h4 ((hcond0_4 t).mp h)))]
            iintro ⟨⟨%a, %b, %d, %e, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
            iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2 _ _ _ _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [HS0]; · iexact HS0
            isplitl [HS1]; · iexact HS1
            isplitl [HS2]; · iexact HS2
            isplitl [HS3]; · iexists _; iexact HS3
            iintro ⟨H0, H1, H2, H3, H4, H5, H6, H7, H8, H9, H10, H11, H12, HS0, HS1, HS2, ⟨%es3, HS3⟩⟩
            isplitl [HS0 HS1 HS2 HS3 Hg]
            · iexists (put14 (grid0.coords t) a (iblk m c 3 t)), (put15 (grid0.coords t) b (iblk m c 4 t)), (put16 (grid0.coords t) d (modCk m c t)), (actM m c)
              isplitr
              · ipureintro; exact Inv_store m c t hI
              isplitl [HS0 HS1 HS2 HS3]
              · isplitl [HS0]
                · unfold owns; iexists _; isplitr
                  swap; · iexact HS0
                  ipureintro; exact put14_A ..
                isplitl [HS1]
                · unfold owns; iexists _; isplitr
                  swap; · iexact HS1
                  ipureintro; exact put15_A ..
                isplitl [HS2]
                · unfold owns; iexists _; isplitr
                  swap; · iexact HS2
                  ipureintro; exact (put16_A ..).trans (congrArg (put16 (grid0.coords t) d) (modCk_eq m c t (by omega)))
                unfold owns; iexists _; isplitr
                swap; · iexact HS3
                ipureintro; exact (act_A ..).trans (actM_eq m c t (by omega))
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            iexists _; iexact H12
        · exfalso; omega
      · by_cases h3 : t.val < 6
        · by_cases h4 : 11 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [Dat.leavesExact_idle (dats m 0 c) 10 t (idleAt0_10_B t ((hcond0_0 t).mpr h0) ((hcond0_1 t).mpr h1) (fun h => h2 ((hcond0_2 t).mp h)) ((hcond0_3 t).mpr h3) (fun h => h4 ((hcond0_4 t).mp h))) (noFlush0_10_B t ((hcond0_0 t).mpr h0) ((hcond0_1 t).mpr h1) (fun h => h2 ((hcond0_2 t).mp h)) ((hcond0_3 t).mpr h3) (fun h => h4 ((hcond0_4 t).mp h)))]
            rw [Dat.leavesExact_idle (dats m 0 c) 11 t (idleAt0_11_B t ((hcond0_0 t).mpr h0) ((hcond0_1 t).mpr h1) (fun h => h2 ((hcond0_2 t).mp h)) ((hcond0_3 t).mpr h3) (fun h => h4 ((hcond0_4 t).mp h))) (noFlush0_11_B t ((hcond0_0 t).mpr h0) ((hcond0_1 t).mpr h1) (fun h => h2 ((hcond0_2 t).mp h)) ((hcond0_3 t).mpr h3) (fun h => h4 ((hcond0_4 t).mp h)))]
            rw [Dat.leavesExact_idle (dats m 0 c) 12 t (idleAt0_12_B t ((hcond0_0 t).mpr h0) ((hcond0_1 t).mpr h1) (fun h => h2 ((hcond0_2 t).mp h)) ((hcond0_3 t).mpr h3) (fun h => h4 ((hcond0_4 t).mp h))) (noFlush0_12_B t ((hcond0_0 t).mpr h0) ((hcond0_1 t).mpr h1) (fun h => h2 ((hcond0_2 t).mp h)) ((hcond0_3 t).mpr h3) (fun h => h4 ((hcond0_4 t).mp h)))]
            iintro ⟨⟨%a, %b, %d, %e, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
            obtain rfl := hI.h17 (by omega)
            iapply ((kernelRun0_B c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2.2.2 _ _ _ _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [HS0]; · iexact HS0
            isplitl [HS1]; · iexact HS1
            isplitl [HS2]; · iexact HS2
            isplitl [HS3]; · iexact HS3
            iintro ⟨H0, H1, H2, H3, H4, H5, H6, H7, H8, H9, H10, H11, H12, HS0, HS1, HS2, HS3⟩
            isplitl [HS0 HS1 HS2 HS3 Hg]
            · iexists (put14 (grid0.coords t) a (iblk m c 3 t)), (put15 (grid0.coords t) b (iblk m c 4 t)), (put16 (grid0.coords t) d (modCk m c t)), (actM m c)
              isplitr
              · ipureintro; exact Inv_store m c t hI
              isplitl [HS0 HS1 HS2 HS3]
              · isplitl [HS0]
                · unfold owns; iexists _; isplitr
                  swap; · iexact HS0
                  ipureintro; exact put14_B ..
                isplitl [HS1]
                · unfold owns; iexists _; isplitr
                  swap; · iexact HS1
                  ipureintro; exact put15_B ..
                isplitl [HS2]
                · unfold owns; iexists _; isplitr
                  swap; · iexact HS2
                  ipureintro; exact put16_B ..
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            iexists _; iexact H12
        · by_cases h4 : 11 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [Dat.leavesExact_idle (dats m 0 c) 10 t (idleAt0_10_C t ((hcond0_0 t).mpr h0) ((hcond0_1 t).mpr h1) (fun h => h2 ((hcond0_2 t).mp h)) (fun h => h3 ((hcond0_3 t).mp h)) (fun h => h4 ((hcond0_4 t).mp h))) (noFlush0_10_C t ((hcond0_0 t).mpr h0) ((hcond0_1 t).mpr h1) (fun h => h2 ((hcond0_2 t).mp h)) (fun h => h3 ((hcond0_3 t).mp h)) (fun h => h4 ((hcond0_4 t).mp h)))]
            rw [Dat.leavesExact_idle (dats m 0 c) 11 t (idleAt0_11_C t ((hcond0_0 t).mpr h0) ((hcond0_1 t).mpr h1) (fun h => h2 ((hcond0_2 t).mp h)) (fun h => h3 ((hcond0_3 t).mp h)) (fun h => h4 ((hcond0_4 t).mp h))) (noFlush0_11_C t ((hcond0_0 t).mpr h0) ((hcond0_1 t).mpr h1) (fun h => h2 ((hcond0_2 t).mp h)) (fun h => h3 ((hcond0_3 t).mp h)) (fun h => h4 ((hcond0_4 t).mp h)))]
            rw [Dat.leavesExact_idle (dats m 0 c) 12 t (idleAt0_12_C t ((hcond0_0 t).mpr h0) ((hcond0_1 t).mpr h1) (fun h => h2 ((hcond0_2 t).mp h)) (fun h => h3 ((hcond0_3 t).mp h)) (fun h => h4 ((hcond0_4 t).mp h))) (noFlush0_12_C t ((hcond0_0 t).mpr h0) ((hcond0_1 t).mpr h1) (fun h => h2 ((hcond0_2 t).mp h)) (fun h => h3 ((hcond0_3 t).mp h)) (fun h => h4 ((hcond0_4 t).mp h)))]
            iintro ⟨⟨%a, %b, %d, %e, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
            iapply ((kernelRun0_C c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2.2.2.2.2 _ _ _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [HS0]; · iexact HS0
            isplitl [HS1]; · iexact HS1
            isplitl [HS2]; · iexact HS2
            isplitl [HS3]; · iexact HS3
            iintro ⟨H0, H1, H2, H3, H4, H5, H6, H7, H8, H9, H10, H11, H12, HS0, HS1, HS2, HS3⟩
            isplitl [HS0 HS1 HS2 HS3 Hg]
            · iexists (put14 (grid0.coords t) a (iblk m c 3 t)), (put15 (grid0.coords t) b (iblk m c 4 t)), d, e
              isplitr
              · ipureintro; exact Inv_store2 m c t (by omega) hI
              isplitl [HS0 HS1 HS2 HS3]
              · isplitl [HS0]
                · unfold owns; iexists _; isplitr
                  swap; · iexact HS0
                  ipureintro; exact put14_C ..
                isplitl [HS1]
                · unfold owns; iexists _; isplitr
                  swap; · iexact HS1
                  ipureintro; exact put15_C ..
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            iexists _; iexact H12
    · exfalso; omega
  · by_cases h1 : t.val < 11
    · exfalso; omega
    · by_cases h2 : t.val % 27 = 0
      · exfalso; omega
      · by_cases h3 : t.val < 6
        · exfalso; omega
        · by_cases h4 : 11 ≤ t.val
          · by_cases h5 : t.val < 23
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5)], after0_10, tile_eq m c t h4]
              rw [show (dats m 0 c).leavesExact 11 t = owns (c : Thread nD τ) (ms0_11 t) fullShare ((dats m 0 c).after 11 t) from by
      unfold Dat.leavesExact; rw [liveAt0_11_D t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5)], after0_11]
              rw [show (dats m 0 c).leavesExact 12 t = owns (c : Thread nD τ) (ms0_12 t) fullShare ((dats m 0 c).after 12 t) from by
      unfold Dat.leavesExact; rw [liveAt0_12_D t (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5)], after0_12, tailB_eq m c t h4 h5]
              iintro ⟨⟨%a, %b, %d, %e, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
              obtain ⟨rfl, rfl, rfl, rfl⟩ := Inv_full m c h4 hI
              iapply ((kernelRun0_D c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) ((hcond0_5 t).mpr h5) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [HS0]; · iexact HS0
              isplitl [HS1]; · iexact HS1
              isplitl [HS2]; · iexact HS2
              isplitl [HS3]; · iexact HS3
              iintro ⟨H0, H1, H2, H3, H4, H5, H6, H7, H8, H9, ⟨%e10, H10⟩, ⟨%e11, H11⟩, ⟨%e12, H12⟩, HS0, HS1, HS2, HS3⟩
              isplitl [HS0 HS1 HS2 HS3 Hg]
              · iexists (w13M m c), (w2M m c), (modM m c), (actM m c)
                isplitr
                · ipureintro; exact Inv_keep m c h4 hI
                isplitl [HS0 HS1 HS2 HS3]
                · isplitl [HS0]
                  · iexact HS0
                  isplitl [HS1]
                  · iexact HS1
                  isplitl [HS2]
                  · iexact HS2
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact out11_D ..
              isplitl [H11]
              · unfold owns; iexists _; isplitr
                swap; · iexact H11
                ipureintro; exact out12_D ..
              unfold owns; iexists _; isplitr
              swap; · iexact H12
              ipureintro; exact out13_D ..
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              rw [show (dats m 0 c).leavesExact 4 t = owns (c : Thread nD τ) (ms0_4 t) fullShare ((dats m 0 c).after 4 t) from by
      unfold Dat.leavesExact; rw [liveAt0_4 t], after0_4]
              rw [show (dats m 0 c).leavesExact 5 t = owns (c : Thread nD τ) (ms0_5 t) fullShare ((dats m 0 c).after 5 t) from by
      unfold Dat.leavesExact; rw [liveAt0_5 t], after0_5]
              rw [show (dats m 0 c).leavesExact 6 t = owns (c : Thread nD τ) (ms0_6 t) fullShare ((dats m 0 c).after 6 t) from by
      unfold Dat.leavesExact; rw [liveAt0_6 t], after0_6]
              rw [show (dats m 0 c).leavesExact 7 t = owns (c : Thread nD τ) (ms0_7 t) fullShare ((dats m 0 c).after 7 t) from by
      unfold Dat.leavesExact; rw [liveAt0_7 t], after0_7]
              rw [show (dats m 0 c).leavesExact 8 t = owns (c : Thread nD τ) (ms0_8 t) fullShare ((dats m 0 c).after 8 t) from by
      unfold Dat.leavesExact; rw [liveAt0_8 t], after0_8]
              rw [show (dats m 0 c).leavesExact 9 t = owns (c : Thread nD τ) (ms0_9 t) fullShare ((dats m 0 c).after 9 t) from by
      unfold Dat.leavesExact; rw [liveAt0_9 t], after0_9]
              rw [show (dats m 0 c).leavesExact 10 t = owns (c : Thread nD τ) (ms0_10 t) fullShare ((dats m 0 c).after 10 t) from by
      unfold Dat.leavesExact; rw [liveAt0_10_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))], after0_10, tile_eq m c t h4]
              rw [show (dats m 0 c).leavesExact 11 t = owns (c : Thread nD τ) (ms0_11 t) fullShare ((dats m 0 c).after 11 t) from by
      unfold Dat.leavesExact; rw [liveAt0_11_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h))], after0_11]
              iintro ⟨⟨%a, %b, %d, %e, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
              obtain ⟨rfl, rfl, rfl, rfl⟩ := Inv_full m c h4 hI
              iapply ((kernelRun0_E c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexact H12
              isplitl [HS0]; · iexact HS0
              isplitl [HS1]; · iexact HS1
              isplitl [HS2]; · iexact HS2
              isplitl [HS3]; · iexact HS3
              iintro ⟨H0, H1, H2, H3, H4, H5, H6, H7, H8, H9, ⟨%e10, H10⟩, ⟨%e11, H11⟩, H12, HS0, HS1, HS2, HS3⟩
              isplitl [HS0 HS1 HS2 HS3 Hg]
              · iexists (w13M m c), (w2M m c), (modM m c), (actM m c)
                isplitr
                · ipureintro; exact Inv_keep m c h4 hI
                isplitl [HS0 HS1 HS2 HS3]
                · isplitl [HS0]
                  · iexact HS0
                  isplitl [HS1]
                  · iexact HS1
                  isplitl [HS2]
                  · iexact HS2
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]
              · unfold owns; iexists _; isplitr
                swap; · iexact H10
                ipureintro; exact out11_E ..
              isplitl [H11]
              · unfold owns; iexists _; isplitr
                swap; · iexact H11
                ipureintro; exact out12_E ..
              iapply (leaves12_E m c t h0 h5); iexact H12
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%a, HS0⟩, ⟨%b, HS1⟩, ⟨%d, HS2⟩, ⟨%e, HS3⟩⟩, Hg⟩
  iexists a, b, d, e
  isplitr
  · ipureintro; exact Inv_zero m c
  isplitl [HS0 HS1 HS2 HS3]
  · isplitl [HS0]; · iexact HS0
    isplitl [HS1]; · iexact HS1
    isplitl [HS2]; · iexact HS2
    iexact HS3
  iexact Hg

/-- After the last point the invariant gives `ΦA` back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%a, %b, %d, %e, %hI, ⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_FfnIdeal`'s statement (Defs.lean) at any `F` — Proof.lean cites it at `Bits`:
    `theorem Cert.Proof.claim : Cert.Claim := ⟨Cert.FfnIdeal.Hand.facts, fun m ρ _ => Cert.FfnIdeal.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.FfnIdeal.Hand

end
-- ==== Proof.FfnHand.Value.lean ====
/- The run of the program FfnIdeal: what each point writes back, and what each array holds after the run. -/
module

public import proofs.«01_k».proof.Proof.FfnHand.Frame
public import Idealize.ShloMosaic.Lib.Pipeline.Value

@[expose] public section

noncomputable section

namespace Cert.FfnIdeal.Value

open Cert.FfnIdeal Cert.FfnIdeal.Gen Cert.FfnIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to output window 10's array is the tile of tokens. -/
theorem flushed10 (c : Dev nD) (t : Fin cfg0.N) :
    (dats m 0 c).flushed 10 t = (cfg0.win 10).cut (grid0.coords t) (tile m c t) := by
  show (cfg0.win 10).cut (grid0.coords t) ((dats m 0 c).after 10 t) = _
  rw [after0_10]

/-- What point `t` writes back to output window 11's array is the slab of the cast weight. -/
theorem flushed11 (c : Dev nD) (t : Fin cfg0.N) :
    (dats m 0 c).flushed 11 t = (cfg0.win 11).cut (grid0.coords t) (slab m c t) := by
  show (cfg0.win 11).cut (grid0.coords t) ((dats m 0 c).after 11 t) = _
  rw [after0_11]

/-- What point `t` writes back to output window 12's array is the block of modulation columns. -/
theorem flushed12 (c : Dev nD) (t : Fin cfg0.N) :
    (dats m 0 c).flushed 12 t = (cfg0.win 12).cut (grid0.coords t) (tailB m c t) := by
  show (cfg0.win 12).cut (grid0.coords t) ((dats m 0 c).after 12 t) = _
  rw [after0_12]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_2) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- The frame run with each output array after the run named, `(dats m 0 c).arrAt w N`,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 10 cfg0.N
      ∧ r.2.mem ((c : Thread nD τ).loc main_v0_1) = (dats m 0 c).arrAt 11 cfg0.N
      ∧ r.2.mem ((c : Thread nD τ).loc main_v0_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)
end Cert.FfnIdeal.Value

end
-- ==== Proof.FfnVal.lean ====
/- The kernel's three results after the run, token by token. -/
module

public import proofs.«01_k».proof.Proof.FfnIn
public import proofs.«01_k».proof.Proof.FfnHand.Value

@[expose] public section

set_option maxRecDepth 16384

noncomputable section

namespace Cert.FfnIdeal.Row

open Cert.FfnIdeal Cert.FfnIdeal.Gen Cert.FfnIdeal.Hand Cert.FfnIdeal.Value Idealize.ShloMosaic Idealize.ShloMosaic.TcCoe Idealize.SL.Sem
open Idealize.ShloMosaic.Pipeline (Dat)
open Cert.FfnSpec
open Cert.BackSpec (rms c1024 epsRms half modRow)

variable (m : (ℓ : Loc nD τ sig) → Buf (Elt Ideal) ℓ)

/-- A row of the kept modulation loaded at point `t`. -/
theorem md_at (c : Dev nD) (t : Fin cfg0.N) (ht : 11 ≤ t.val) (o : Fin 2 → Nat) (h : ∀ a, o a + S1x1024.size a ≤ S8x3072.size a) (k : Nat)
    (ho : o 0 = (rowT t).val ∧ o 1 = k) (q : Fin 512) (j : Fin 1024) (hk : k + j.val < 3072) (x : Fin 9216) (hx : x.val = k + j.val) :
    View.ld (modM m c) (Rect.unit (s := S8x3072) o S1x1024.size h) (ix2 0 j) = (tok m c (at512 t q)).md x := by
  have e : (⟨k + j.val, by omega⟩ : Fin 9216) = x := Fin.ext hx.symm
  rw [ld_row _ o h (rowT t) k ho.1 ho.2 j hk, mod_at, ← e, ← modRow_at t ht q]
  rfl

/-- The tile a point leaves, row by row, is the block's value of its tokens. -/
theorem tile_row (c : Dev nD) (t : Fin cfg0.N) (ht : 11 ≤ t.val) (q : Fin 512) (j : Fin 1024) :
    tile m c t (ix2 q j) = (tok m c (at512 t q)).out j := by
  rw [tile_eq m c t ht]
  unfold blkX
  have hg0 : ∀ j : Fin 1024, View.ld (iblk m c 2 t) (Rect.unit (s := S6x1024) ![0, 0] S1x1024.size inb_S6x1024_S1x1024_0_0) (ix2 0 j)
      = (tok m c (at512 t q)).g 0 j := fun j => (ld_g0 _ j).trans (in2 m c t 0 j)
  have hg1 : ∀ j : Fin 1024, View.ld (iblk m c 2 t) (Rect.unit (s := S6x1024) ![1, 0] S1x1024.size inb_S6x1024_S1x1024_1_0) (ix2 0 j)
      = (tok m c (at512 t q)).g 1 j := fun j => (ld_g1 _ j).trans (in2 m c t 1 j)
  have hm4 : ∀ j : Fin 1024, View.ld (modM m c) (Rect.unit (s := S8x3072) (k0_off4 (grid0.coords t)) S1x1024.size (k0_off4_inb (grid0.coords t) ((hcond0_4 t).mpr ht))) (ix2 0 j)
      = (tok m c (at512 t q)).md ⟨j.val, by omega⟩ := fun j => md_at m c t ht _ _ 0 (off4 t ht) q j (by omega) _ (Nat.zero_add _).symm
  have hm5 : ∀ j : Fin 1024, View.ld (modM m c) (Rect.unit (s := S8x3072) (k0_off5 (grid0.coords t)) S1x1024.size (k0_off5_inb (grid0.coords t) ((hcond0_4 t).mpr ht))) (ix2 0 j)
      = (tok m c (at512 t q)).md ⟨1024 + j.val, by omega⟩ := fun j => md_at m c t ht _ _ 1024 (off5 t ht) q j (by omega) _ rfl
  have hm6 : ∀ j : Fin 1024, View.ld (modM m c) (Rect.unit (s := S8x3072) (k0_off6 (grid0.coords t)) S1x1024.size (k0_off6_inb (grid0.coords t) ((hcond0_4 t).mpr ht))) (ix2 0 j)
      = (tok m c (at512 t q)).md ⟨2048 + j.val, by omega⟩ := fun j => md_at m c t ht _ _ 2048 (off6 t ht) q j (by omega) _ rfl
  have hx := x_at m c t ht q
  have hw13 : ∀ (k : Fin 1024) (j : Fin 5632), w13M m c (ix2 k j) = (tok m c (at512 t q)).w13 k j := w13_at m c
  have hw2 : ∀ (k : Fin 2816) (j : Fin 1024), w2M m c (ix2 k j) = (tok m c (at512 t q)).w2 k j := w2_at m c
  generalize tok m c (at512 t q) = p at *
  rcases Nat.lt_or_ge q.val 256 with h | h
  · have hx0 : ∀ j : Fin 1024, k0_pay11 (BitVec.ofNat 32 ((grid0.coords t) 0)) (iblk m c 0 t) (iblk m c 1 t) (ix2 (⟨q.val, h⟩ : Fin 256) j) = p.x j :=
      fun j => (rows0 _ _ _ _ j).trans (hx j)
    refine (cat0 ⟨q.val, h⟩ _ _ _ _ _ _ _ j).trans ?_
    exact out0 p ⟨q.val, h⟩ _ _ _ _ _ hm6 hx0 (gu0 p ⟨q.val, h⟩ _ _ _ _ _ hm4 hm5 hx0 hg0 hw13) hw2 hg1 j
  · obtain ⟨s, rfl⟩ : ∃ s : Fin 256, q = (⟨256 + s.val, Nat.add_lt_add_left s.isLt 256⟩ : Fin 512) :=
      ⟨⟨q.val - 256, by omega⟩, Fin.ext (by show q.val = 256 + (q.val - 256); omega)⟩
    have hx1 : ∀ j : Fin 1024, k0_pay12 (BitVec.ofNat 32 ((grid0.coords t) 0)) (iblk m c 0 t) (iblk m c 1 t) (ix2 s j) = p.x j :=
      fun j => (rows1 _ _ _ _ j).trans (hx j)
    have hgu := gu1 p s _ _ _ _ _ hm4 hm5 hx1 hg0 hw13
    have hff := ff1 p s _ _ hgu hw2
    exact cat1 p s _ _ _ _ _ _ hx1 hff hm6 hg1 (ms1 p s _ _ hff) j

/-- The first result: the tokens after the block. -/
def result10 (c : Dev nD) : Buf (Elt Ideal) ((c : Thread nD τ).loc main_v0_0) := fun i => (tok m c (i 0)).out (i 1)

/-- The second result: the mixer's weight, cast. -/
def result11 (c : Dev nD) : Buf (Elt Ideal) ((c : Thread nD τ).loc main_v0_1) :=
  fun i => m ((c : Thread nD τ).loc main_arg5) (ix2 (i 0 : Fin 1024) (i 1 : Fin 5632))

/-- The third result: the rest of the modulation. -/
def result12 (c : Dev nD) : Buf (Elt Ideal) ((c : Thread nD τ).loc main_v0_2) :=
  fun i => (cnd m c).md (i 0) ⟨3072 + (i 1).val, by have : (i 1).val < 6144 := (i 1).isLt; omega⟩

theorem flush10 : ∀ t : Fin grid0.N, win0_10.flush t = true → 11 ≤ t.val := by decide +kernel
theorem flush12 : ∀ t : Fin grid0.N, win0_12.flush t = true → 11 ≤ t.val := by decide +kernel
theorem index10 : ∀ t : Fin grid0.N, win0_10.index t 0 = t.val - 11 ∧ win0_10.index t 1 = 0 := by decide +kernel
theorem index11 : ∀ t : Fin grid0.N, win0_11.index t 0 = t.val - 11 ∧ win0_11.index t 1 = 0 := by decide +kernel
theorem index12 : ∀ t : Fin grid0.N, win0_12.index t 0 = 0 ∧ win0_12.index t 1 = min (t.val - 11) 11 := by decide +kernel

theorem flushed_eq10 (c : Dev nD) (t : Fin cfg0.N) (hf : (cfg0.win 10).flush t = true) :
    (dats m 0 c).flushed 10 t = ((cfg0.win 10).blk t).view.read (Elt Ideal) (result10 m c) := by
  rw [flushed10]
  funext y
  rw [View.read_apply]
  obtain ⟨q, j, rfl⟩ : ∃ (q : Fin 512) (j : Fin 1024), y = (ix2 q j : S512x1024.Idx) := ⟨y 0, y 1, ValueIdx.eq_ix2 y⟩
  show tile m c t (ix2 q j) = _
  rw [tile_row m c t (flush10 t hf)]
  unfold result10
  congr 2
  · apply Fin.ext
    show 512 * (t.val - 11) + q.val = win0_10.index t 0 * 512 + 1 * q.val
    rw [(index10 t).1]; omega
  · apply Fin.ext
    show j.val = win0_10.index t 1 * 1024 + 1 * j.val
    rw [(index10 t).2]; omega

theorem flushed_eq11 (c : Dev nD) (t : Fin cfg0.N) (_ : (cfg0.win 11).flush t = true) :
    (dats m 0 c).flushed 11 t = ((cfg0.win 11).blk t).view.read (Elt Ideal) (result11 m c) := by
  rw [flushed11]
  funext y
  rw [View.read_apply]
  obtain ⟨q, j, rfl⟩ : ∃ (q : Fin 64) (j : Fin 5632), y = (ix2 q j : S64x5632.Idx) := ⟨y 0, y 1, ValueIdx.eq_ix2 y⟩
  show slab m c t (ix2 q j) = _
  unfold slab
  refine (cast8 _ q j).trans ?_
  rw [in5]
  unfold result11
  congr 2
  · apply Fin.ext
    show 64 * (t.val - 11) + q.val = win0_11.index t 0 * 64 + 1 * q.val
    rw [(index11 t).1]; omega
  · apply Fin.ext
    show j.val = win0_11.index t 1 * 5632 + 1 * j.val
    rw [(index11 t).2]; omega

theorem flushed_eq12 (c : Dev nD) (t : Fin cfg0.N) (hf : (cfg0.win 12).flush t = true) :
    (dats m 0 c).flushed 12 t = ((cfg0.win 12).blk t).view.read (Elt Ideal) (result12 m c) := by
  have ht := flush12 t hf
  have hN := lt27 t
  rw [flushed12]
  funext y
  rw [View.read_apply]
  obtain ⟨q, j, rfl⟩ : ∃ (q : Fin 8) (j : Fin 512), y = (ix2 q j : S8x512.Idx) := ⟨y 0, y 1, ValueIdx.eq_ix2 y⟩
  show tailB m c t (ix2 q j) = _
  unfold tailB
  have eb : blk8 (pt (max 11 (min t.val 22))) = 6 + min (t.val - 11) 11 := by
    unfold blk8
    show (if min (max 11 (min t.val 22)) 26 < 11 then min (min (max 11 (min t.val 22)) 26) 5 else 6 + min (min (max 11 (min t.val 22)) 26 - 11) 11) = _
    rw [if_neg (by omega)]; omega
  refine (mod9 _ _ _ q j).trans ((cols_at m c _ q j ⟨3072 + 512 * min (t.val - 11) 11 + j.val, by omega⟩ ?_).trans ?_)
  · rw [eb]
    show 3072 + 512 * min (t.val - 11) 11 + j.val = _
    omega
  · unfold result12
    congr 1
    · apply Fin.ext
      show q.val = win0_12.index t 0 * 8 + 1 * q.val
      rw [(index12 t).1]; omega
    · apply Fin.ext
      show 3072 + 512 * min (t.val - 11) 11 + j.val = 3072 + (win0_12.index t 1 * 512 + 1 * j.val)
      rw [(index12 t).2]; omega

/-- Each block of each result is written back. -/
theorem point10 : ∀ k : Fin 16, ∃ t : Fin grid0.N, win0_10.flush t = true ∧ t.val - 11 = k.val := by decide +kernel
theorem point11 : ∀ k : Fin 16, ∃ t : Fin grid0.N, win0_11.flush t = true ∧ t.val - 11 = k.val := by decide +kernel
theorem point12 : ∀ k : Fin 12, ∃ t : Fin grid0.N, win0_12.flush t = true ∧ min (t.val - 11) 11 = k.val := by decide +kernel

theorem final10 (c : Dev nD) : (dats m 0 c).arrAt 10 cfg0.N = result10 m c :=
  (dats m 0 c).arrAt_eq_of_cover 10 (result10 m c) (flushed_eq10 m c) fun i => by
    have h0 : (i 0 : Nat) < 8192 := (i 0).isLt
    have h1 : (i 1 : Nat) < 1024 := (i 1).isLt
    obtain ⟨t, hf, ht⟩ := point10 ⟨(i 0).val / 512, by omega⟩
    refine ⟨t, hf, ?_⟩
    show i ∈ ((View.whole main_v0_0).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(index10 t).1]; dsimp only at ht; omega
    | ⟨1, _⟩ =>
      show win0_10.index t 1 * 1024 ≤ (i 1 : Nat) ∧ (i 1 : Nat) < win0_10.index t 1 * 1024 + 1024
      rw [(index10 t).2]; omega

theorem final11 (c : Dev nD) : (dats m 0 c).arrAt 11 cfg0.N = result11 m c :=
  (dats m 0 c).arrAt_eq_of_cover 11 (result11 m c) (flushed_eq11 m c) fun i => by
    have h0 : (i 0 : Nat) < 1024 := (i 0).isLt
    have h1 : (i 1 : Nat) < 5632 := (i 1).isLt
    obtain ⟨t, hf, ht⟩ := point11 ⟨(i 0).val / 64, by omega⟩
    refine ⟨t, hf, ?_⟩
    show i ∈ ((View.whole main_v0_1).slice (win0_11.rect t)).set
    rw [View.set_slice_whole, Rect.mem_set_unit]
    intro a
    match a with
    | ⟨0, _⟩ =>
      show win0_11.index t 0 * 64 ≤ (i 0 : Nat) ∧ (i 0 : Nat) < win0_11.index t 0 * 64 + 64
      rw [(index11 t).1]; dsimp only at ht; omega
    | ⟨1, _⟩ =>
      show win0_11.index t 1 * 5632 ≤ (i 1 : Nat) ∧ (i 1 : Nat) < win0_11.index t 1 * 5632 + 5632
      rw [(index11 t).2]; omega

theorem final12 (c : Dev nD) : (dats m 0 c).arrAt 12 cfg0.N = result12 m c :=
  (dats m 0 c).arrAt_eq_of_cover 12 (result12 m c) (flushed_eq12 m c) fun i => by
    have h0 : (i 0 : Nat) < 8 := (i 0).isLt
    have h1 : (i 1 : Nat) < 6144 := (i 1).isLt
    obtain ⟨t, hf, ht⟩ := point12 ⟨(i 1).val / 512, by omega⟩
    refine ⟨t, hf, ?_⟩
    show i ∈ ((View.whole main_v0_2).slice (win0_12.rect t)).set
    rw [View.set_slice_whole, Rect.mem_set_unit]
    intro a
    match a with
    | ⟨0, _⟩ =>
      show win0_12.index t 0 * 8 ≤ (i 0 : Nat) ∧ (i 0 : Nat) < win0_12.index t 0 * 8 + 8
      rw [(index12 t).1]; omega
    | ⟨1, _⟩ =>
      show win0_12.index t 1 * 512 ≤ (i 1 : Nat) ∧ (i 1 : Nat) < win0_12.index t 1 * 512 + 512
      rw [(index12 t).2]; dsimp only at ht; omega

end Cert.FfnIdeal.Row
-- ==== Proof.FfnRef.lean ====
/- The reference's results, read token by token, are the row-wise value. -/
module

public import proofs.«01_k».proof.Proof.Gen.FfnRefIdeal.Run
public import proofs.«01_k».proof.Proof.FfnSpec

@[expose] public section

set_option maxRecDepth 16384

noncomputable section

namespace Cert.FfnRefIdeal.Row

open Cert.FfnRefIdeal Cert.FfnRefIdeal.Gen Cert.FfnRefIdeal.Value Idealize.ShloMosaic Idealize.ShloMosaic.TcCoe Idealize.SL.Sem Idealize.ShloMosaic.StableHlo
open Cert.BackSpec (rms c1024 epsRms half modRow)
open Cert.FfnSpec

/-- The activated conditions. -/
def cond (x6 : FVec Ideal S1x1024 .f32) (x7 : FVec Ideal S2x1024 .f32) : FVec Ideal S8x1024 .f32 :=
    concatenate S8x1024 0 [⟨S1x1024, (mulf x6 (Host.divf (broadcastInDim S1x1024 ![] bcast_S_S1x1024 ((constant S_ .f32 0x3F800000#32))) (addf
    (broadcastInDim S1x1024 ![] bcast_S_S1x1024 ((constant S_ .f32 0x3F800000#32))) (Host.exp (Host.negf x6)))))⟩, ⟨S2x1024, (mulf x7 (Host.divf
    (broadcastInDim S2x1024 ![] bcast_S_S2x1024 ((constant S_ .f32 0x3F800000#32))) (addf (broadcastInDim S2x1024 ![] bcast_S_S2x1024 ((constant S_ .f32
    0x3F800000#32))) (Host.exp (Host.negf x7)))))⟩, ⟨S5x1024, (broadcastInDim S5x1024 ![] bcast_S_S5x1024 ((constant S_ .f32 0x00000000#32)))⟩]
    concatenates_S1x1024_S2x1024_S5x1024_S8x1024_d0

/-- The modulation. -/
def modR (cd : FVec Ideal S8x1024 .f32) (x8 : FVec Ideal S1024x9216 .f32) (x9 : FVec Ideal S1x9216 .f32) : FVec Ideal S8x9216 .f32 :=
    addf (Host.dotGeneral dot_S8x1024_S1024x9216_S8x9216_1_0_0_1_n_n none cd x8) (broadcastInDim S8x9216 ![0, 1] bcast_S1x9216_S8x9216_0_1 x9)

/-- Each token's modulation. -/
def modT (md : FVec Ideal S8x9216 .f32) : FVec Ideal S8192x9216 .f32 :=
    concatenate S8192x9216 0 [⟨S4096x9216, (broadcastInDim S4096x9216 ![0, 1] bcast_S1x9216_S4096x9216_0_1 (extractStridedSlice S1x9216 ![0, 0] md
    slices_S8x9216_S1x9216_0_0))⟩, ⟨S2048x9216, (broadcastInDim S2048x9216 ![0, 1] bcast_S1x9216_S2048x9216_0_1 (extractStridedSlice S1x9216 ![1, 0] md
    slices_S8x9216_S1x9216_1_0))⟩, ⟨S2048x9216, (broadcastInDim S2048x9216 ![0, 1] bcast_S1x9216_S2048x9216_0_1 (extractStridedSlice S1x9216 ![2, 0] md
    slices_S8x9216_S1x9216_2_0))⟩] concatenates_S4096x9216_S2048x9216_S2048x9216_S8192x9216_d0

/-- The tokens. -/
def xR (x0 x1 : FVec Ideal S4096x1024 .f32) : FVec Ideal S8192x1024 .f32 :=
    concatenate S8192x1024 0 [⟨S4096x1024, x0⟩, ⟨S4096x1024, x1⟩] concatenates_S4096x1024_S4096x1024_S8192x1024_d0

/-- The modulated input. -/
def hR (x : FVec Ideal S8192x1024 .f32) (md : FVec Ideal S8192x9216 .f32) (x2 : FVec Ideal S6x1024 .f32) : FVec Ideal S8192x1024 .f32 :=
    addf (mulf (mulf (mulf x (broadcastInDim S8192x1024 ![0, 1] bcast_S8192x1_S8192x1024_0_1 (Host.rsqrt (addf (Host.divf (broadcastInDim S8192x1 ![0]
    bcast_S8192_S8192x1_0 (Host.reduceAdd (mulf x x) ((constant S_ .f32 0x00000000#32)) reducesTo_S8192x1024_S8192_d1 h_S_)) (broadcastInDim S8192x1 ![]
    bcast_S_S8192x1 ((constant S_ .f32 0x44800000#32)))) (broadcastInDim S8192x1 ![] bcast_S_S8192x1 ((constant S_ .f32 0x358637BD#32)))))))
    (broadcastInDim S8192x1024 ![0, 1] bcast_S1x1024_S8192x1024_0_1 (broadcastInDim S1x1024 ![1] bcast_S1024_S1x1024_1 (shapeCast _ (extractStridedSlice
    S1x1024 ![0, 0] x2 slices_S6x1024_S1x1024_0_0) shapeCasts_S1x1024_S1024)))) (addf (broadcastInDim S8192x1024 ![] bcast_S_S8192x1024 ((constant S_ .f32
    0x3F800000#32))) (extractStridedSlice S8192x1024 ![0, 1024] md slices_S8192x9216_S8192x1024_0_1024))) (extractStridedSlice S8192x1024 ![0, 0] md
    slices_S8192x9216_S8192x1024_0_0)

/-- The first product. -/
def guR (h : FVec Ideal S8192x1024 .f32) (x3 : FVec Ideal S1024x5632 .f32) : FVec Ideal S8192x5632 .f32 :=
    Host.dotGeneral dot_S8192x1024_S1024x5632_S8192x5632_1_0_0_1_n_n none h x3

/-- The second product. -/
def ffR (gu : FVec Ideal S8192x5632 .f32) (x4 : FVec Ideal S2816x1024 .f32) : FVec Ideal S8192x1024 .f32 :=
    Host.dotGeneral dot_S8192x2816_S2816x1024_S8192x1024_1_0_0_1_n_n none (mulf (mulf (extractStridedSlice S8192x2816 ![0, 0] gu
    slices_S8192x5632_S8192x2816_0_0) (Host.divf (broadcastInDim S8192x2816 ![] bcast_S_S8192x2816 ((constant S_ .f32 0x3F800000#32))) (addf
    (broadcastInDim S8192x2816 ![] bcast_S_S8192x2816 ((constant S_ .f32 0x3F800000#32))) (Host.exp (Host.negf (extractStridedSlice S8192x2816 ![0, 0] gu
    slices_S8192x5632_S8192x2816_0_0)))))) (extractStridedSlice S8192x2816 ![0, 2816] gu slices_S8192x5632_S8192x2816_0_2816)) x4

/-- The tokens after the block. -/
def outR (x ff : FVec Ideal S8192x1024 .f32) (md : FVec Ideal S8192x9216 .f32) (x2 : FVec Ideal S6x1024 .f32) : FVec Ideal S8192x1024 .f32 :=
    addf x (mulf (mulf (broadcastInDim S8192x1024 ![] bcast_S_S8192x1024 ((constant S_ .f32 0x3F000000#32))) (extractStridedSlice S8192x1024 ![0, 2048] md
    slices_S8192x9216_S8192x1024_0_2048)) (mulf (mulf ff (broadcastInDim S8192x1024 ![0, 1] bcast_S8192x1_S8192x1024_0_1 (Host.rsqrt (addf (Host.divf
    (broadcastInDim S8192x1 ![0] bcast_S8192_S8192x1_0 (Host.reduceAdd (mulf ff ff) ((constant S_ .f32 0x00000000#32)) reducesTo_S8192x1024_S8192_d1
    h_S_)) (broadcastInDim S8192x1 ![] bcast_S_S8192x1 ((constant S_ .f32 0x44800000#32)))) (broadcastInDim S8192x1 ![] bcast_S_S8192x1 ((constant S_ .f32
    0x358637BD#32))))))) (broadcastInDim S8192x1024 ![0, 1] bcast_S1x1024_S8192x1024_0_1 (broadcastInDim S1x1024 ![1] bcast_S1024_S1x1024_1 (shapeCast _
    (extractStridedSlice S1x1024 ![1, 0] x2 slices_S6x1024_S1x1024_1_0) shapeCasts_S1x1024_S1024)))))

variable (m : (ℓ : Loc nD τ sig) → Buf (Elt Ideal) ℓ)

/-- The conditions, as the reference's program holds them. -/
def cnd (c : Dev nD) : Cond where
  cx j := m ((c.tc : Thread nD τ).loc main_arg6) (ix2 0 j)
  cl i j := m ((c.tc : Thread nD τ).loc main_arg7) (ix2 i j)
  wm i j := m ((c.tc : Thread nD τ).loc main_arg8) (ix2 i j)
  bm j := m ((c.tc : Thread nD τ).loc main_arg9) (ix2 0 j)

/-- What token `r` reads of the arguments. -/
def tok (c : Dev nD) (r : Fin 8192) : Tok where
  x j := if h : r.val < 4096 then m ((c.tc : Thread nD τ).loc main_arg0) (ix2 ⟨r.val, h⟩ j)
    else m ((c.tc : Thread nD τ).loc main_arg1) (ix2 ⟨r.val - 4096, by omega⟩ j)
  md j := (cnd m c).md (modRow r) j
  g i j := m ((c.tc : Thread nD τ).loc main_arg2) (ix2 i j)
  w13 i j := m ((c.tc : Thread nD τ).loc main_arg3) (ix2 i j)
  w2 i j := m ((c.tc : Thread nD τ).loc main_arg4) (ix2 i j)

/-- The reference's arrays. -/
def condV (c : Dev nD) : FVec Ideal S8x1024 .f32 := cond (m ((c.tc : Thread nD τ).loc main_arg6)) (m ((c.tc : Thread nD τ).loc main_arg7))
def modV (c : Dev nD) : FVec Ideal S8x9216 .f32 := modR (condV m c) (m ((c.tc : Thread nD τ).loc main_arg8)) (m ((c.tc : Thread nD τ).loc main_arg9))
def modTV (c : Dev nD) : FVec Ideal S8192x9216 .f32 := modT (modV m c)
def xV (c : Dev nD) : FVec Ideal S8192x1024 .f32 := xR (m ((c.tc : Thread nD τ).loc main_arg0)) (m ((c.tc : Thread nD τ).loc main_arg1))
def hV (c : Dev nD) : FVec Ideal S8192x1024 .f32 := hR (xV m c) (modTV m c) (m ((c.tc : Thread nD τ).loc main_arg2))
def guV (c : Dev nD) : FVec Ideal S8192x5632 .f32 := guR (hV m c) (m ((c.tc : Thread nD τ).loc main_arg3))
def ffV (c : Dev nD) : FVec Ideal S8192x1024 .f32 := ffR (guV m c) (m ((c.tc : Thread nD τ).loc main_arg4))
def outV (c : Dev nD) : FVec Ideal S8192x1024 .f32 := outR (xV m c) (ffV m c) (modTV m c) (m ((c.tc : Thread nD τ).loc main_arg2))

set_option maxHeartbeats 4000000 in
/-- The run's first result is the tokens after the block. -/
theorem v79_eq (c : Dev nD) : res_main_v79 m c = outV m c := by
  unfold outV ffV guV hV xV modTV modV condV outR ffR guR hR modT modR cond xR res_main_v79
  rfl

/-- The activated conditions, entry by entry. -/
theorem cond_row (c : Dev nD) (r : Fin 8) (k : Fin 1024) : condV m c (ix2 r k) = (cnd m c).act r k := by
  unfold condV
  pointwise [cond]
  unfold Cond.act
  by_cases h0 : r.val < 1
  · obtain rfl : r = 0 := Fin.ext (by show r.val = 0; omega)
    rw [dif_pos h0, if_pos h0]; rfl
  · by_cases h1 : r.val < 3
    · rw [dif_neg h0, if_neg h0, dif_pos (by omega), dif_pos h1]; rfl
    · rw [dif_neg h0, if_neg h0, dif_neg (by omega), dif_neg h1]

/-- The modulation, entry by entry. -/
theorem mod_row (c : Dev nD) (r : Fin 8) (j : Fin 9216) : modV m c (ix2 r j) = (cnd m c).md r j := by
  unfold modV
  pointwise [modR]
  simp only [cond_row]
  rfl

/-- Each token's modulation. -/
theorem modT_row (c : Dev nD) (r : Fin 8192) (j : Fin 9216) : modTV m c (ix2 r j) = (tok m c r).md j := by
  unfold modTV
  pointwise [modT]
  simp only [mod_row]
  show _ = (cnd m c).md (modRow r) j
  unfold modRow
  by_cases h0 : r.val < 4096
  · rw [dif_pos h0, if_pos h0]
  · by_cases h1 : r.val < 6144
    · rw [dif_neg h0, if_neg h0, dif_pos (by omega), if_pos h1]
    · rw [dif_neg h0, if_neg h0, dif_neg (by omega), if_neg h1]

/-- The tokens. -/
theorem x_row (c : Dev nD) (r : Fin 8192) (j : Fin 1024) : xV m c (ix2 r j) = (tok m c r).x j := by
  unfold xV
  pointwise [xR]
  rfl

/-- The modulated input. -/
theorem h_row (c : Dev nD) (r : Fin 8192) (j : Fin 1024) : hV m c (ix2 r j) = (tok m c r).h j := by
  unfold hV
  pointwise [hR]
  simp only [x_row, modT_row]
  rfl

/-- The first product. -/
theorem gu_row (c : Dev nD) (r : Fin 8192) (j : Fin 5632) : guV m c (ix2 r j) = (tok m c r).gu j := by
  unfold guV
  pointwise [guR]
  simp only [h_row]
  rfl

/-- The second product. -/
theorem ff_row (c : Dev nD) (r : Fin 8192) (j : Fin 1024) : ffV m c (ix2 r j) = (tok m c r).ff j := by
  unfold ffV
  pointwise [ffR]
  simp only [gu_row]
  rfl

/-- The tokens after the block. -/
theorem out_row (c : Dev nD) (r : Fin 8192) (j : Fin 1024) : res_main_v79 m c (ix2 r j) = (tok m c r).out j := by
  rw [v79_eq]
  unfold outV
  pointwise [outR]
  simp only [x_row, ff_row, modT_row]
  rfl

/-- The rest of the modulation, as the reference slices it. -/
theorem tail_row (c : Dev nD) (r : Fin 8) (j : Fin 6144) :
    extractStridedSlice S8x6144 ![0, 3072] (modV m c) slices_S8x9216_S8x6144_0_3072 (ix2 r j) = (cnd m c).md r ⟨3072 + j.val, by omega⟩ := by
  pointwise
  exact mod_row m c r _

end Cert.FfnRefIdeal.Row
-- ==== Proof.lean ====
/- The claims of this certificate, for the back half of the layer and for its first feed-forward block: the three frames of
   each, the rewriting's (empty) preservation, and that over the extended reals the kernel computes what the reference computes. -/
module

public import proofs.«01_k».proof.Defs
public import proofs.«01_k».proof.Proof.BackPlain.Frame
public import proofs.«01_k».proof.Proof.BackVal
public import proofs.«01_k».proof.Proof.BackRef1
public import proofs.«01_k».proof.Proof.Gen.BackRefIdeal.Run
public import proofs.«01_k».proof.Proof.FfnFrame
public import proofs.«01_k».proof.Proof.FfnVal
public import proofs.«01_k».proof.Proof.FfnRef
public import proofs.«01_k».proof.Proof.Gen.FfnRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.ShloMosaic.TcCoe Idealize.SL.Sem

/-- The two programs, started from the same arguments, read the same token. -/
theorem back_tok (m : (ℓ : Loc Cert.BackIdeal.nD Cert.BackIdeal.τ Cert.BackIdeal.sig) → Buf (Elt Ideal) ℓ)
    (m' : (ℓ : Loc Cert.BackRefIdeal.nD Cert.BackRefIdeal.τ Cert.BackRefIdeal.sig) → Buf (Elt Ideal) ℓ) (c : Dev Cert.BackIdeal.nD)
    (h : m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
      ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
      ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)
      ∧ m' ((c.tc : Thread Cert.BackRefIdeal.nD Cert.BackRefIdeal.τ).loc Cert.BackRefIdeal.main_arg13) = m ((c.tc : Thread Cert.BackIdeal.nD Cert.BackIdeal.τ).loc Cert.BackIdeal.main_arg13)
      ∧ m' ((c.tc : Thread Cert.BackRefIdeal.nD Cert.BackRefIdeal.τ).loc Cert.BackRefIdeal.main_arg14) = m ((c.tc : Thread Cert.BackIdeal.nD Cert.BackIdeal.τ).loc Cert.BackIdeal.main_arg14))
    (r : Fin 8192) :
    Cert.BackRefIdeal.Row.tok (launchContents m' c) r = Cert.BackIdeal.Row.tok m c r := by
  obtain ⟨h0, h1, h2, h3, h4, h5, h6, h7, h8, h9, h10, h11, h12, h13, h14⟩ := h
  unfold Cert.BackRefIdeal.Row.tok Cert.BackIdeal.Row.tok
  congr 1
  · exact funext fun j => congrFun h0 (ix2 r j)
  · exact funext fun j => congrFun h1 (ix2 r j)
  · exact funext fun j => congrFun h2 (ix2 r j)
  · exact funext fun j => congrFun h3 (ix2 r j)
  · exact funext fun j => congrFun h4 (ix2 r j)
  · exact funext fun j => congrFun h5 (ix2 r j)
  · exact funext fun j => congrFun h6 (ix2 r j)
  · exact funext fun j => congrFun h7 (ix2 (Cert.BackSpec.modRow r) j)
  · exact funext fun i => funext fun j => congrFun h8 (ix2 i j)
  · exact funext fun j => congrFun h9 (ix2 0 j)
  · exact funext fun j => congrFun h10 (ix2 0 j)
  · exact funext fun i => funext fun j => congrFun h11 (ix2 i j)
  · exact funext fun i => funext fun j => congrFun h12 (ix2 i j)
  · exact funext fun i => funext fun j => congrFun h13 (ix2 i j)
  · exact funext fun i => funext fun j => congrFun h14 (ix2 i j)

/-- Over the extended reals the back half's kernel and its reference leave the same results. -/
theorem back_algebraic : Cert.algebraic_BackIdeal_BackRefIdeal (hBackIdeal := Cert.BackIdeal.Gen.facts) (hBackRefIdeal := Cert.BackRefIdeal.Gen.facts) := by
  intro m g m' g' _ h
  refine ⟨fun c => Cert.BackIdeal.Row.result16 m c, fun c => Cert.BackIdeal.Row.result17 m c, ?_, ?_⟩
  · refine (θ_run _ _ _).mono (fun r hr c => ?_) (Cert.BackIdeal.Value.run_blocks (F := Ideal) m g)
    obtain ⟨e0, e1, rest⟩ := hr c
    exact ⟨e0.trans (Cert.BackIdeal.Row.final16 m c), e1.trans (Cert.BackIdeal.Row.final17 m c), rest⟩
  · refine (θ_run _ _ _).mono (fun r hr c => ?_) (Cert.BackRefIdeal.Value.run (F := Ideal) m' g')
    obtain ⟨e0, e1, rest⟩ := hr c
    refine ⟨e0.trans (funext fun y => ?_), e1.trans (funext fun y => ?_), rest⟩
    · have hy : (y 0).val < 4096 := (y 0).isLt
      have e : extractStridedSlice Cert.BackRefIdeal.S4096x1024 ![0, 0] (Cert.BackRefIdeal.Value.res_main_v114 (launchContents m' c))
            Cert.BackRefIdeal.Gen.slices_S8192x1024_S4096x1024_0_0 y
          = Cert.BackRefIdeal.Value.res_main_v114 (launchContents m' c) (ix2 ⟨(y 0).val, by omega⟩ (y 1)) :=
        extractStridedSlice_apply (s := Cert.BackRefIdeal.S8192x1024) (t := Cert.BackRefIdeal.S4096x1024) ![0, 0] (Cert.BackRefIdeal.Value.res_main_v114 (launchContents m' c)) Cert.BackRefIdeal.Gen.slices_S8192x1024_S4096x1024_0_0 y (ix2 ⟨(y 0).val, by omega⟩ (y 1)) (fun a => match a with
          | ⟨0, _⟩ => (Nat.zero_add (y 0).val).symm
          | ⟨1, _⟩ => (Nat.zero_add (y 1).val).symm)
      exact e.trans ((Cert.BackRefIdeal.Row.v114 (launchContents m' c) _ _).trans
        (congrArg (fun T => Cert.BackSpec.Tok.out T (y 1)) (back_tok m m' c (h c) _)))
    · have hy : (y 0).val < 4096 := (y 0).isLt
      have e : extractStridedSlice Cert.BackRefIdeal.S4096x1024 ![4096, 0] (Cert.BackRefIdeal.Value.res_main_v114 (launchContents m' c))
            Cert.BackRefIdeal.Gen.slices_S8192x1024_S4096x1024_4096_0 y
          = Cert.BackRefIdeal.Value.res_main_v114 (launchContents m' c) (ix2 ⟨4096 + (y 0).val, by omega⟩ (y 1)) :=
        extractStridedSlice_apply (s := Cert.BackRefIdeal.S8192x1024) (t := Cert.BackRefIdeal.S4096x1024) ![4096, 0] (Cert.BackRefIdeal.Value.res_main_v114 (launchContents m' c)) Cert.BackRefIdeal.Gen.slices_S8192x1024_S4096x1024_4096_0 y (ix2 ⟨4096 + (y 0).val, by omega⟩ (y 1)) (fun a => match a with
          | ⟨0, _⟩ => rfl
          | ⟨1, _⟩ => (Nat.zero_add (y 1).val).symm)
      exact e.trans ((Cert.BackRefIdeal.Row.v114 (launchContents m' c) _ _).trans
        (congrArg (fun T => Cert.BackSpec.Tok.out T (y 1)) (back_tok m m' c (h c) _)))

/-- The reference ends, its arguments unchanged, with every semaphore at zero: it has none. -/
theorem back_ref_frame : Cert.quiescent_BackRefIdeal (hBackRefIdeal := Cert.BackRefIdeal.Gen.facts) := fun m g _ =>
  (θ_run _ _ _).mono (fun r hr => ⟨fun c => (hr c).2.2, Idealize.ShloMosaic.sem_eq_zero_of_no_sems (by decide) r.2⟩)
    (Cert.BackRefIdeal.Value.run (F := Ideal) m g)

/-- The two programs of the first feed-forward block, started from the same arguments, read the same conditions. -/
theorem ffn_cnd (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) :
    Cert.FfnRefIdeal.Row.cnd m' c = Cert.FfnIdeal.Row.cnd m c := by
  obtain ⟨h0, h1, h2, h3, h4, h5, h6, h7, h8, h9⟩ := h
  unfold Cert.FfnRefIdeal.Row.cnd Cert.FfnIdeal.Row.cnd
  congr 1
  · exact funext fun j => congrFun h6 (ix2 0 j)
  · exact funext fun i => funext fun j => congrFun h7 (ix2 i j)
  · exact funext fun i => funext fun j => congrFun h8 (ix2 i j)
  · exact funext fun j => congrFun h9 (ix2 0 j)

/-- They read the same token. -/
theorem ffn_tok (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9))
    (r : Fin 8192) : Cert.FfnRefIdeal.Row.tok m' c r = Cert.FfnIdeal.Row.tok m c r := by
  have ec := ffn_cnd m m' c h
  obtain ⟨h0, h1, h2, h3, h4, h5, h6, h7, h8, h9⟩ := h
  unfold Cert.FfnRefIdeal.Row.tok Cert.FfnIdeal.Row.tok
  rw [ec]
  congr 1
  · funext j
    by_cases hr : r.val < 4096
    · rw [dif_pos hr, dif_pos hr]; exact congrFun h0 (ix2 ⟨r.val, hr⟩ j)
    · rw [dif_neg hr, dif_neg hr]; exact congrFun h1 (ix2 ⟨r.val - 4096, by omega⟩ j)
  · exact funext fun i => funext fun j => congrFun h2 (ix2 i j)
  · exact funext fun i => funext fun j => congrFun h3 (ix2 i j)
  · exact funext fun i => funext fun j => congrFun h4 (ix2 i j)

/-- Over the extended reals the first feed-forward block's kernel and its reference leave the same results. -/
theorem ffn_algebraic : Cert.algebraic_FfnIdeal_FfnRefIdeal (hFfnIdeal := Cert.FfnIdeal.Gen.facts) (hFfnRefIdeal := Cert.FfnRefIdeal.Gen.facts) := by
  intro m g m' g' _ h
  refine ⟨fun c => Cert.FfnIdeal.Row.result10 m c, fun c => Cert.FfnIdeal.Row.result11 m c, fun c => Cert.FfnIdeal.Row.result12 m c, ?_, ?_⟩
  · refine (θ_run _ _ _).mono (fun r hr c => ?_) (Cert.FfnIdeal.Value.run_blocks (F := Ideal) m g)
    obtain ⟨e0, e1, e2, rest⟩ := hr c
    exact ⟨e0.trans (Cert.FfnIdeal.Row.final10 m c), e1.trans (Cert.FfnIdeal.Row.final11 m c), e2.trans (Cert.FfnIdeal.Row.final12 m c), rest⟩
  · refine (θ_run _ _ _).mono (fun r hr c => ?_) (Cert.FfnRefIdeal.Value.run (F := Ideal) m' g')
    obtain ⟨e0, e1, e2, rest⟩ := hr c
    refine ⟨e0.trans (funext fun y => ?_), e1.trans (funext fun y => ?_), e2.trans (funext fun y => ?_), rest⟩
    · obtain ⟨a, j, rfl⟩ : ∃ (a : Fin 8192) (j : Fin 1024), y = (ix2 a j : Cert.FfnRefIdeal.S8192x1024.Idx) := ⟨y 0, y 1, ValueIdx.eq_ix2 y⟩
      exact (Cert.FfnRefIdeal.Row.out_row m' c a j).trans (congrArg (fun T => Cert.FfnSpec.Tok.out T j) (ffn_tok m m' c (h c) a))
    · obtain ⟨a, j, rfl⟩ : ∃ (a : Fin 1024) (j : Fin 5632), y = (ix2 a j : Cert.FfnRefIdeal.S1024x5632.Idx) := ⟨y 0, y 1, ValueIdx.eq_ix2 y⟩
      exact congrFun (h c).2.2.2.2.2.1 (ix2 a j)
    · obtain ⟨a, j, rfl⟩ : ∃ (a : Fin 8) (j : Fin 6144), y = (ix2 a j : Cert.FfnRefIdeal.S8x6144.Idx) := ⟨y 0, y 1, ValueIdx.eq_ix2 y⟩
      exact (Cert.FfnRefIdeal.Row.tail_row m' c a j).trans (congrArg (fun T => Cert.FfnSpec.Cond.md T a ⟨3072 + j.val, by omega⟩) (ffn_cnd m m' c (h c)))

/-- The block's reference ends, its arguments unchanged, with every semaphore at zero: it has none. -/
theorem ffn_ref_frame : Cert.quiescent_FfnRefIdeal (hFfnRefIdeal := Cert.FfnRefIdeal.Gen.facts) := fun m g _ =>
  (θ_run _ _ _).mono (fun r hr => ⟨fun c => (hr c).2.2.2, Idealize.ShloMosaic.sem_eq_zero_of_no_sems (by decide) r.2⟩)
    (Cert.FfnRefIdeal.Value.run (F := Ideal) m g)

/-- The block's kernel as printed ends, its arguments unchanged, with every semaphore at zero: its text is the idealized one's. -/
theorem ffn_frame : Cert.quiescent_Ffn (hFfn := Cert.Ffn.Gen.facts) := fun m g _ => by
  have h := Cert.FfnIdeal.Hand.frame (F := Bits) m g
  rw [← Cert.FfnHand.defs_eq, ← Cert.FfnHand.main_eq] at h
  exact h

/-- All the claims of this certificate together. -/
theorem claim : Cert.Claim := ⟨Cert.Back.Gen.facts, Cert.BackIdeal.Gen.facts, Cert.BackRefIdeal.Gen.facts,
  Cert.Ffn.Gen.facts, Cert.FfnIdeal.Gen.facts, Cert.FfnRefIdeal.Gen.facts,
  fun m ρ _ => Cert.Back.Hand.frame m ρ, fun m ρ _ => Cert.BackIdeal.Hand.frame m ρ, back_ref_frame,
  ffn_frame, fun m ρ _ => Cert.FfnIdeal.Hand.frame m ρ, ffn_ref_frame,
  trivial, back_algebraic, trivial, ffn_algebraic⟩

end Cert.Proof

end
